-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_square [hPre_unit_square : Cert.Pre_unit_square.Facts] (m : (ℓ : Loc Cert.KernelIdeal.nD Cert.KernelIdeal.τ Cert.KernelIdeal.sig) → Buf (Elt Ideal) ℓ) : Prop :=
  ∀ c : Dev Cert.KernelIdeal.nD,
    (Cert.Pre_unit_square.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_square [hPre_unit_square : Cert.Pre_unit_square.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_square.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_unit_square [hKernelIdeal : Cert.KernelIdeal.Facts] [hPre_unit_square : Cert.Pre_unit_square.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_square m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_unit_square [hReferenceIdeal : Cert.ReferenceIdeal.Facts] [hPre_unit_square : Cert.Pre_unit_square.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_square m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_unit_square [hKernelIdeal : Cert.KernelIdeal.Facts] [hReferenceIdeal : Cert.ReferenceIdeal.Facts] [hPre_unit_square : Cert.Pre_unit_square.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_square m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_unit_square : Cert.Pre_unit_square.Facts),
    quiescent_Kernel (hKernel := hKernel)
    ∧ quiescent_KernelIdeal (hKernelIdeal := hKernelIdeal)
    ∧ quiescent_KernelIdeal_pre_unit_square (hKernelIdeal := hKernelIdeal) (hPre_unit_square := hPre_unit_square)
    ∧ quiescent_ReferenceIdeal (hReferenceIdeal := hReferenceIdeal)
    ∧ quiescent_ReferenceIdeal_pre_unit_square (hReferenceIdeal := hReferenceIdeal) (hPre_unit_square := hPre_unit_square)
    ∧ preserves_Kernel_KernelIdeal
    ∧ algebraic_KernelIdeal_ReferenceIdeal_pre_unit_square (hKernelIdeal := hKernelIdeal) (hReferenceIdeal := hReferenceIdeal) (hPre_unit_square := hPre_unit_square)
-- ==== Pre_unit_square.lean ====
abbrev S50000x512 : Shape := ⟨2, ![50000, 512]⟩
abbrev S50000x2 : Shape := ⟨2, ![50000, 2]⟩
abbrev S128x512 : Shape := ⟨2, ![128, 512]⟩
abbrev S128 : Shape := ⟨1, ![128]⟩
abbrev S1x128 : Shape := ⟨2, ![1, 128]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel

variable [Facts]

def fn {F : FTy → Type} [FloatOps F] (main_arg0 : FVec F S50000x512 .f32) (main_arg1 : FVec F S50000x2 .f32) (main_arg2 : FVec F S128x512 .f32) (main_arg3 : FVec F S128 .f32) (main_arg4 : FVec F S128x512 .f32) (main_arg5 : FVec F S128 .f32) (main_arg6 : FVec F S1x128 .f32) (main_arg7 : FVec F S256x512 .f32) (main_arg8 : FVec F S256 .f32) (main_arg9 : FVec F S1x256 .f32) (main_arg10 : FVec F S1 .f32) : IVec S_ 1 :=
  let main_cst : FVec F S_ .f32 := constant S_ .f32 0x00000000#32
  let main_v0 : FVec F S50000x2 .f32 := broadcastInDim S50000x2 ![] bcast_S_S50000x2 main_cst
  let main_v1 : IVec S50000x2 1 := cmpf .oge main_arg1 main_v0
  let main_cst_0 : FVec F S_ .f32 := constant S_ .f32 0x3F800000#32
  let main_v2 : FVec F S50000x2 .f32 := broadcastInDim S50000x2 ![] bcast_S_S50000x2 main_cst_0
  let main_v3 : IVec S50000x2 1 := cmpf .olt main_arg1 main_v2
  let main_v4 : IVec S50000x2 1 := andi main_v1 main_v3
  let main_c : IVec S_ 1 := constantI S_ 1 1#1
  let main_v5 : IVec S_ 1 := (fun x v => Host.reduce IntOp.andi x v reducesTo_S50000x2_S_d0_1 h_S_) main_v4 main_c
  main_v5
-- ==== Kernel.lean ====
abbrev S50000x512 : Shape := ⟨2, ![50000, 512]⟩
abbrev S50000x2 : Shape := ⟨2, ![50000, 2]⟩
abbrev S128x512 : Shape := ⟨2, ![128, 512]⟩
abbrev S128 : Shape := ⟨1, ![128]⟩
abbrev S1x128 : Shape := ⟨2, ![1, 128]⟩
abbrev S256x512 : Shape := ⟨2, ![256, 512]⟩
abbrev S256 : Shape := ⟨1, ![256]⟩
abbrev S1x256 : Shape := ⟨2, ![1, 256]⟩
abbrev S1 : Shape := ⟨1, ![1]⟩
abbrev S2x50000 : Shape := ⟨2, ![2, 50000]⟩
abbrev S2x10x5000 : Shape := ⟨3, ![2, 10, 5000]⟩
abbrev S10x2x5000 : Shape := ⟨3, ![10, 2, 5000]⟩
abbrev S1x1 : Shape := ⟨2, ![1, 1]⟩
abbrev S1x512 : Shape := ⟨2, ![1, 512]⟩
abbrev S64x1 : Shape := ⟨2, ![64, 1]⟩
abbrev S1x2x5000 : Shape := ⟨3, ![1, 2, 5000]⟩
abbrev S5000x512 : Shape := ⟨2, ![5000, 512]⟩
abbrev S64x512 : Shape := ⟨2, ![64, 512]⟩
abbrev S64x128 : Shape := ⟨2, ![64, 128]⟩
abbrev S2 : Shape := ⟨1, ![2]⟩
abbrev S1x50000 : Shape := ⟨2, ![1, 50000]⟩
abbrev S50000 : Shape := ⟨1, ![50000]⟩
abbrev S1x1x5000 : Shape := ⟨3, ![1, 1, 5000]⟩
abbrev S5000 : Shape := ⟨1, ![5000]⟩
abbrev S64x5000 : Shape := ⟨2, ![64, 5000]⟩
abbrev S1x5000 : Shape := ⟨2, ![1, 5000]⟩
abbrev S64 : Shape := ⟨1, ![64]⟩
abbrev S1x64x1 : Shape := ⟨3, ![1, 64, 1]⟩
abbrev S1x1x1 : Shape := ⟨3, ![1, 1, 1]⟩
abbrev S512 : Shape := ⟨1, ![512]⟩

abbrev nBuf : Space → Nat
  | .hbm => 22
  | .vmem => 20
  | .smem => 1
  | _ => 0

abbrev bufTy : (tb : Table) → Fin (tcTables nBuf tb) → BufTy
  | .hbm, ⟨0, _⟩ => ⟨S50000x512, .f32⟩
  | .hbm, ⟨1, _⟩ => ⟨S50000x2, .f32⟩
  | .hbm, ⟨2, _⟩ => ⟨S128x512, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S1x128, .f32⟩
  | .hbm, ⟨7, _⟩ => ⟨S256x512, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S2x50000, .f32⟩
  | .hbm, ⟨12, _⟩ => ⟨S2x10x5000, .f32⟩
  | .hbm, ⟨13, _⟩ => ⟨S10x2x5000, .f32⟩
  | .hbm, ⟨14, _⟩ => ⟨S1x128, .f32⟩
  | .hbm, ⟨15, _⟩ => ⟨S1x128, .f32⟩
  | .hbm, ⟨16, _⟩ => ⟨S1x256, .f32⟩
  | .hbm, ⟨17, _⟩ => ⟨S1x1, .f32⟩
  | .hbm, ⟨18, _⟩ => ⟨S1x1, .f32⟩
  | .hbm, ⟨19, _⟩ => ⟨S1x512, .f32⟩
  | .hbm, ⟨20, _⟩ => ⟨S64x1, .f32⟩
  | .hbm, ⟨21, _⟩ => ⟨S1x1, .i32⟩
  | .local _ .vmem, ⟨0, _⟩ => ⟨S2x50000, .f32⟩
  | .local _ .vmem, ⟨1, _⟩ => ⟨S1x2x5000, .f32⟩
  | .local _ .vmem, ⟨2, _⟩ => ⟨S1x2x5000, .f32⟩
  | .local _ .vmem, ⟨3, _⟩ => ⟨S5000x512, .f32⟩
  | .local _ .vmem, ⟨4, _⟩ => ⟨S5000x512, .f32⟩
  | .local _ .vmem, ⟨5, _⟩ => ⟨S128x512, .f32⟩
  | .local _ .vmem, ⟨6, _⟩ => ⟨S1x128, .f32⟩
  | .local _ .vmem, ⟨7, _⟩ => ⟨S128x512, .f32⟩
  | .local _ .vmem, ⟨8, _⟩ => ⟨S1x128, .f32⟩
  | .local _ .vmem, ⟨9, _⟩ => ⟨S1x128, .f32⟩
  | .local _ .vmem, ⟨10, _⟩ => ⟨S256x512, .f32⟩
  | .local _ .vmem, ⟨11, _⟩ => ⟨S1x256, .f32⟩
  | .local _ .vmem, ⟨12, _⟩ => ⟨S1x256, .f32⟩
  | .local _ .vmem, ⟨13, _⟩ => ⟨S1x1, .f32⟩
  | .local _ .vmem, ⟨14, _⟩ => ⟨S1x1, .f32⟩
  | .local _ .vmem, ⟨15, _⟩ => ⟨S1x512, .f32⟩
  | .local _ .vmem, ⟨16, _⟩ => ⟨S64x1, .f32⟩
  | .local _ .vmem, ⟨17, _⟩ => ⟨S1x1, .i32⟩
  | .local _ .vmem, ⟨18, _⟩ => ⟨S64x512, .f32⟩
  | .local _ .vmem, ⟨19, _⟩ => ⟨S64x128, .f32⟩
  | .local _ .smem, ⟨0, _⟩ => ⟨S2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v52 : BitVec 1 := Scalar.cmpi .eq arg0 c9_i32
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x50000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S50000x512 : Shape := ⟨2, ![50000, 512]⟩
abbrev S50000x2 : Shape := ⟨2, ![50000, 2]⟩
abbrev S128x512 : Shape := ⟨2, ![128, 512]⟩
abbrev S128 : Shape := ⟨1, ![128]⟩
abbrev S1x128 : Shape := ⟨2, ![1, 128]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩
abbrev S2 : Shape := ⟨1, ![2]⟩
abbrev S1x2 : Shape := ⟨2, ![1, 2]⟩
abbrev S50000x1 : Shape := ⟨2, ![50000, 1]⟩
abbrev S50000 : Shape := ⟨1, ![50000]⟩
abbrev S64x512 : Shape := ⟨2, ![64, 512]⟩
abbrev S64 : Shape := ⟨1, ![64]⟩
abbrev S64x1 : Shape := ⟨2, ![64, 1]⟩
abbrev S512x128 : Shape := ⟨2, ![512, 128]⟩
abbrev S64x128 : Shape := ⟨2, ![64, 128]⟩
abbrev S128x1 : Shape := ⟨2, ![128, 1]⟩
abbrev S1x1 : Shape := ⟨2, ![1, 1]⟩
abbrev S512 : Shape := ⟨1, ![512]⟩
abbrev S512x256 : Shape := ⟨2, ![512, 256]⟩
abbrev S256x1 : Shape := ⟨2, ![256, 1]⟩
abbrev S1x512 : Shape := ⟨2, ![1, 512]⟩

abbrev nBuf : Space → Nat
  | .hbm => 127
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x2, .f32⟩
  | .hbm, ⟨2, _⟩ => ⟨S128x512, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S1x128, .f32⟩
  | .hbm, ⟨7, _⟩ => ⟨S256x512, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S_, .f32⟩
  | .hbm, ⟨12, _⟩ => ⟨S2, .f32⟩
  | .hbm, ⟨13, _⟩ => ⟨S_, .f32⟩
  | .hbm, ⟨14, _⟩ => ⟨S2, .f32⟩
  | .hbm, ⟨15, _⟩ => ⟨S2, .f32⟩
  | .hbm, ⟨16, _⟩ => ⟨S_, .f32⟩
  | .hbm, ⟨17, _⟩ => ⟨S_, .f32⟩
  | .hbm, ⟨18, _⟩ => ⟨S2, .f32⟩
  | .hbm, ⟨19, _⟩ => ⟨S2, .f32⟩
  | .hbm, ⟨20, _⟩ => ⟨S1x2, .f32⟩
  | .hbm, ⟨21, _⟩ => ⟨S50000x2, .f32⟩
  | .hbm, ⟨22, _⟩ => ⟨S50000x2, .f32⟩
  | .hbm, ⟨23, _⟩ => ⟨S1x2, .f32⟩
  | .hbm, ⟨24, _⟩ => ⟨S50000x2, .f32⟩
  | .hbm, ⟨25, _⟩ => ⟨S50000x2, .f32⟩
  | .hbm, ⟨26, _⟩ => ⟨S_, .f32⟩
  | .hbm, ⟨27, _⟩ => ⟨S50000x2, .f32⟩
  | .hbm, ⟨28, _⟩ => ⟨S50000x2, .f32⟩
  | .hbm, ⟨29, _⟩ => ⟨S50000x2, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S50000x2, .i32⟩
  | .hbm, ⟨34, _⟩ => ⟨S50000x2, .i32⟩
  | .hbm, ⟨35, _⟩ => ⟨S_, .i32⟩
  | .hbm, ⟨36, _⟩ => ⟨S50000x2, .i32⟩
  | .hbm, ⟨37, _⟩ => ⟨S50000x2, .i32⟩
  | .hbm, ⟨38, _⟩ => ⟨S50000x1, .i32⟩
  | .hbm, ⟨39, _⟩ => ⟨S50000, .i32⟩
  | .hbm, ⟨40, _⟩ => ⟨S_, .i32⟩
  | .hbm, ⟨41, _⟩ => ⟨S50000, .i32⟩
  | .hbm, ⟨42, _⟩ => ⟨S50000, .i32⟩
  | .hbm, ⟨43, _⟩ => ⟨S50000x1, .i32⟩
  | .hbm, ⟨44, _⟩ => ⟨S50000, .i32⟩
  | .hbm, ⟨45, _⟩ => ⟨S50000, .i32⟩
  | .hbm, ⟨46, _⟩ => ⟨S_, .f32⟩
  | .hbm, ⟨47, _⟩ => ⟨S64x512, .f32⟩
  | .hbm, ⟨48, _⟩ => ⟨S50000x1, .i32⟩
  | .hbm, ⟨49, _⟩ => ⟨S64x512, .f32⟩
  | .hbm, ⟨50, _⟩ => ⟨S_, .f32⟩
  | .hbm, ⟨51, _⟩ => ⟨S50000, .f32⟩
  | .hbm, ⟨52, _⟩ => ⟨S_, .f32⟩
  | .hbm, ⟨53, _⟩ => ⟨S64, .f32⟩
  | .hbm, ⟨54, _⟩ => ⟨S50000x1, .i32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .i1⟩
  | .hbm, ⟨59, _⟩ => ⟨S_, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64x1, .f32⟩
  | .hbm, ⟨64, _⟩ => ⟨S64x512, .f32⟩
  | .hbm, ⟨65, _⟩ => ⟨S64x512, .f32⟩
  | .hbm, ⟨66, _⟩ => ⟨S512x128, .f32⟩
  | .hbm, ⟨67, _⟩ => ⟨S64x128, .f32⟩
  | .hbm, ⟨68, _⟩ => ⟨S1x128, .f32⟩
  | .hbm, ⟨69, _⟩ => ⟨S64x128, .f32⟩
  | .hbm, ⟨70, _⟩ => ⟨S64x128, .f32⟩
  | .hbm, ⟨71, _⟩ => ⟨S64x128, .f32⟩
  | .hbm, ⟨72, _⟩ => ⟨S512x128, .f32⟩
  | .hbm, ⟨73, _⟩ => ⟨S64x128, .f32⟩
  | .hbm, ⟨74, _⟩ => ⟨S1x128, .f32⟩
  | .hbm, ⟨75, _⟩ => ⟨S64x128, .f32⟩
  | .hbm, ⟨76, _⟩ => ⟨S64x128, .f32⟩
  | .hbm, ⟨77, _⟩ => ⟨S64x128, .f32⟩
  | .hbm, ⟨78, _⟩ => ⟨S64x128, .f32⟩
  | .hbm, ⟨79, _⟩ => ⟨S_, .f32⟩
  | .hbm, ⟨80, _⟩ => ⟨S64x128, .f32⟩
  | .hbm, ⟨81, _⟩ => ⟨S64x128, .f32⟩
  | .hbm, ⟨82, _⟩ => ⟨S_, .f32⟩
  | .hbm, ⟨83, _⟩ => ⟨S64x128, .f32⟩
  | .hbm, ⟨84, _⟩ => ⟨S64x128, .f32⟩
  | .hbm, ⟨85, _⟩ => ⟨S64x128, .f32⟩
  | .hbm, ⟨86, _⟩ => ⟨S128x1, .f32⟩
  | .hbm, ⟨87, _⟩ => ⟨S64x1, .f32⟩
  | .hbm, ⟨88, _⟩ => ⟨S64x1, .i1⟩
  | .hbm, ⟨89, _⟩ => ⟨S_, .f32⟩
  | .hbm, ⟨90, _⟩ => ⟨S_, .f32⟩
  | .hbm, ⟨91, _⟩ => ⟨S64x1, .f32⟩
  | .hbm, ⟨92, _⟩ => ⟨S64x1, .f32⟩
  | .hbm, ⟨93, _⟩ => ⟨S_, .f32⟩
  | .hbm, ⟨94, _⟩ => ⟨S1, .f32⟩
  | .hbm, ⟨95, _⟩ => ⟨S_, .f32⟩
  | .hbm, ⟨96, _⟩ => ⟨S1, .f32⟩
  | .hbm, ⟨97, _⟩ => ⟨S1, .f32⟩
  | .hbm, ⟨98, _⟩ => ⟨S1x1, .f32⟩
  | .hbm, ⟨99, _⟩ => ⟨S64x1, .f32⟩
  | .hbm, ⟨100, _⟩ => ⟨S64x1, .f32⟩
  | .hbm, ⟨101, _⟩ => ⟨S64x1, .f32⟩
  | .hbm, ⟨102, _⟩ => ⟨S_, .f32⟩
  | .hbm, ⟨103, _⟩ => ⟨S1, .f32⟩
  | .hbm, ⟨104, _⟩ => ⟨S1x1, .f32⟩
  | .hbm, ⟨105, _⟩ => ⟨S64x1, .f32⟩
  | .hbm, ⟨106, _⟩ => ⟨S64x1, .f32⟩
  | .hbm, ⟨107, _⟩ => ⟨S64x512, .f32⟩
  | .hbm, ⟨108, _⟩ => ⟨S64x512, .f32⟩
  | .hbm, ⟨109, _⟩ => ⟨S_, .f32⟩
  | .hbm, ⟨110, _⟩ => ⟨S512, .f32⟩
  | .hbm, ⟨111, _⟩ => ⟨S512x256, .f32⟩
  | .hbm, ⟨112, _⟩ => ⟨S256, .f32⟩
  | .hbm, ⟨113, _⟩ => ⟨S256, .f32⟩
  | .hbm, ⟨114, _⟩ => ⟨S_, .f32⟩
  | .hbm, ⟨115, _⟩ => ⟨S256, .f32⟩
  | .hbm, ⟨116, _⟩ => ⟨S256, .f32⟩
  | .hbm, ⟨117, _⟩ => ⟨S256x1, .f32⟩
  | .hbm, ⟨118, _⟩ => ⟨S1, .f32⟩
  | .hbm, ⟨119, _⟩ => ⟨S1, .f32⟩
  | .hbm, ⟨120, _⟩ => ⟨S_, .f32⟩
  | .hbm, ⟨121, _⟩ => ⟨S64, .i32⟩
  | .hbm, ⟨122, _⟩ => ⟨S_, .i32⟩
  | .hbm, ⟨123, _⟩ => ⟨S_, .i32⟩
  | .hbm, ⟨124, _⟩ => ⟨S1x1, .f32⟩
  | .hbm, ⟨125, _⟩ => ⟨S1x512, .f32⟩
  | .hbm, ⟨126, _⟩ => ⟨S1x1, .i32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev main_v29 : Ref sig .tc := ⟨.hbm, 58, rfl⟩
abbrev main_cst_9 : Ref sig .tc := ⟨.hbm, 59, rfl⟩
abbrev main_call2_v0 : Ref sig .tc := ⟨.hbm, 60, rfl⟩
abbrev main_call2_v1 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_cst_11 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_call3_v0 : Ref sig .tc := ⟨.hbm, 90, rfl⟩
abbrev main_call3_v1 : Ref sig .tc := ⟨.hbm, 91, rfl⟩
abbrev main_v55 : Ref sig .tc := ⟨.hbm, 92, rfl⟩
abbrev main_cst_13 : Ref sig .tc := ⟨.hbm, 93, rfl⟩
abbrev main_v56 : Ref sig .tc := ⟨.hbm, 94, rfl⟩
abbrev main_cst_14 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_15 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call4_cst : Ref sig .tc := ⟨.hbm, 114, rfl⟩
abbrev main_call4_v0 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_17 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩

abbrev nD : Nat := 1
abbrev τ : Topo := Topo.v7x

variable {F : FTy → Type} [FloatOps F]
-- ==== Proof.Steps.lean ====
/-
  What a grid point of the kernel leaves in its scratch buffers and, at the last point, in its result blocks, as the
  named payloads of the blocks it is given.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Steps

open Idealize.ShloMosaic Idealize.ShloMosaic.TcCoe Idealize.SL Cert.KernelIdeal Cert.KernelIdeal.Gen

theorem hz2 : (![0, 0] : Fin 2 → Nat) = fun _ => 0 := funext fun a => by fin_cases a <;> rfl

section
variable {F : FTy → Type} [FloatOps F]

/-- Column zero of the count buffer, as a rectangle. -/
abbrev colRect : Rect S64x128 := Rect.unit ![0, 0] S64x1.size inb_S64x128_S64x1_0_0

/-- Column zero of the count buffer. -/
def col (v : Vec F S64x128 .f32) : Vec F S64x1 .f32 := View.ld v colRect

/-- A block's first coordinates. -/
def xsOf (x1 : Vec F S1x2x5000 .f32) : Vec F S1x1x5000 .f32 := View.ld x1 (Rect.unit ![0, 0, 0] S1x1x5000.size inb_S1x2x5000_S1x1x5000_0_0_0)

/-- A block's second coordinates. -/
def ysOf (x1 : Vec F S1x2x5000 .f32) : Vec F S1x1x5000 .f32 := View.ld x1 (Rect.unit ![0, 1, 0] S1x1x5000.size inb_S1x2x5000_S1x1x5000_0_1_0)

/-- The least first coordinate. -/
def lo0 (x0 : Vec F S2x50000 .f32) : Elt F .f32 := k0_pay13 (View.ld x0 (Rect.unit ![0, 0] S1x50000.size inb_S2x50000_S1x50000_0_0))

/-- The least second coordinate. -/
def lo1 (x0 : Vec F S2x50000 .f32) : Elt F .f32 := k0_pay14 (View.ld x0 (Rect.unit ![1, 0] S1x50000.size inb_S2x50000_S1x50000_1_0))

/-- The running sums after a block. -/
def accStep (x1 : Vec F S1x2x5000 .f32) (x2 : Vec F S5000x512 .f32) (a b : Elt F .f32) (acc : Vec F S64x512 .f32) : Vec F S64x512 .f32 :=
  k0_pay1 (k0_pay16 (xsOf x1) (ysOf x1) a b) acc x2

/-- The running counts after a block. -/
def cntStep (x1 : Vec F S1x2x5000 .f32) (a b : Elt F .f32) (cnt : Vec F S64x1 .f32) : Vec F S64x1 .f32 :=
  k0_pay2 (k0_pay15 (xsOf x1) (ysOf x1) a b) cnt

/-- Entry zero of the least coordinates. -/
def at0 (v : Vec F S2 .f32) : Elt F .f32 := View.ld v (Rect.unit ![0] S1.size inb_S2_S1_0) (Shape.Idx.first (by decide))

/-- Entry one of the least coordinates. -/
def at1 (v : Vec F S2 .f32) : Elt F .f32 := View.ld v (Rect.unit ![1] S1.size inb_S2_S1_1) (Shape.Idx.first (by decide))

/-- The two words of the least coordinates, stored one at a time: entry zero, -/
theorem at0_canon (p q : Elt F .f32) :
    at0 (View.canon (Val := Elt F) [(⟨Rect.unit ![1] S1.size inb_S2_S1_1, fun _ => q⟩ : View.Piece (Elt F) S2 .f32), ⟨Rect.unit ![0] S1.size inb_S2_S1_0, fun _ => p⟩]) = p := by
  show View.canon _ ((Rect.unit (s := S2) ![0] S1.size inb_S2_S1_0).emb (Shape.Idx.first (by decide))) = p
  rw [View.canon_cons_of_not_mem, View.canon_cons_emb]
  intro hm
  rw [← Rect.map_emb_univ] at hm
  obtain ⟨k, -, hk⟩ := Finset.mem_map.mp hm
  have h0 : 1 + 1 * (k 0).val = 0 + 1 * 0 := congrArg Fin.val (congrFun hk 0)
  omega

/-- and entry one. -/
theorem at1_canon (q : Elt F .f32) (L : List (View.Piece (Elt F) S2 .f32)) :
    at1 (View.canon (Val := Elt F) ((⟨Rect.unit ![1] S1.size inb_S2_S1_1, fun _ => q⟩ : View.Piece (Elt F) S2 .f32) :: L)) = q := by
  exact View.canon_cons_emb (Rect.unit (s := S2) ![1] S1.size inb_S2_S1_1) (fun _ => q) L (Shape.Idx.first (by decide))

/-- Column zero of a buffer whose last store is to column zero. -/
theorem col_canon (w : Vec F S64x1 .f32) (L : List (View.Piece (Elt F) S64x128 .f32)) :
    col (View.canon (Val := Elt F) ((⟨colRect, w⟩ : View.Piece (Elt F) S64x128 .f32) :: L)) = w := by
  funext j
  exact View.canon_cons_emb colRect w L j

end

variable {F : FTy → Type} [FloatOps F] (c : Dev nD) (i : grid0.Coords)
  (arg1 : Memref sig .tc .vmem S2x50000 .f32) (harg1 : arg1.IsWhole) (arg2 : Memref sig .tc .vmem S1x2x5000 .f32) (harg2 : arg2.IsWhole) (arg3 : Memref sig .tc .vmem S5000x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S128x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x512 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x512 .f32) (harg14 : arg14.IsWhole) (arg15 : Memref sig .tc .vmem S64x1 .f32) (harg15 : arg15.IsWhole) (arg16 : Memref sig .tc .vmem S1x1 .i32) (harg16 : arg16.IsWhole) (arg17 : Memref sig .tc .vmem S64x512 .f32) (harg17 : arg17.IsWhole) (arg18 : Memref sig .tc .vmem S64x128 .f32) (harg18 : arg18.IsWhole) (arg19 : Memref sig .tc .smem S2 .f32) (harg19 : arg19.IsWhole)
  (x0 : Vec F S2x50000 .f32) (x1 : Vec F S1x2x5000 .f32) (x2 : Vec F S5000x512 .f32) (x3 : Vec F S128x512 .f32) (x4 : Vec F S1x128 .f32) (x5 : Vec F S128x512 .f32) (x6 : Vec F S1x128 .f32) (x7 : Vec F S1x128 .f32) (x8 : Vec F S256x512 .f32) (x9 : Vec F S1x256 .f32) (x10 : Vec F S1x256 .f32) (x11 : Vec F S1x1 .f32)
  (xs0 : Vec F S64x512 .f32) (xs1 : Vec F S64x128 .f32) (xs2 : Vec F S2 .f32)

/-- At the first point the running sums start from zero. -/
theorem sout0_A_0_eq (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11
      = accStep x1 x2 (lo0 x0) (lo1 x0) k0_pay11 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  rw [View.canon_cons_unit_zero (S := S64x512) hz2, View.readCov_unit_zero (S := S64x512) _ hz2]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- At the first point the running counts start from zero. -/
theorem sout0_A_1_eq (hc0 : cond0_0 i) (hc1 : ¬cond0_1 i) :
    col (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)
      = cntStep x1 (lo0 x0) (lo1 x0) (col k0_pay12) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  rw [col_canon, View.readCov_eq_canon', View.canon_unit_zero (S := S64x128) hz2]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- The first point stores the least first coordinate. -/
theorem sout0_A_2_eq (hc0 : cond0_0 i) (hc1 : ¬cond0_1 i) :
    at0 (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)
      = lo0 x0 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  rw [at0_canon]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- The first point stores the least second coordinate. -/
theorem sout0_A_2_eq1 (hc0 : cond0_0 i) (hc1 : ¬cond0_1 i) :
    at1 (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)
      = lo1 x0 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  rw [at1_canon]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- A later point adds its block to the running sums. -/
theorem sout0_B_0_eq (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2
      = accStep x1 x2 (at0 xs2) (at1 xs2) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2)]
  unfold kernelRun0_B
  dsimp only
  sl_unfold_words
  rw [View.canon_unit_zero (S := S64x512) hz2]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- A later point adds its block to the running sums. -/
theorem sout0_C_0_eq (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2
      = accStep x1 x2 (at0 xs2) (at1 xs2) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2)]
  unfold kernelRun0_C
  dsimp only
  sl_unfold_words
  rw [View.canon_unit_zero (S := S64x512) hz2]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- A later point adds its block to the running counts. -/
theorem sout0_B_1_eq (hc0 : ¬cond0_0 i) (hc1 : ¬cond0_1 i) :
    col (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2)
      = cntStep x1 (at0 xs2) (at1 xs2) (col xs1) := by
  unfold sout0_B_1
  unfold kernelRun0_B
  dsimp only
  sl_unfold_words
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]
  funext j
  exact View.read_writes_cons_emb arg18.view _ colRect _ [] j

/-- The last point stores the logit. -/
theorem out0_C_12_eq (hc0 : ¬cond0_0 i) (hc1 : cond0_1 i) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2
      = k0_pay5 (k0_pay8 (cntStep x1 (at0 xs2) (at1 xs2) (col xs1)) (accStep x1 x2 (at0 xs2) (at1 xs2) xs0)) (k0_pay9 (cntStep x1 (at0 xs2) (at1 xs2) (col xs1)) (accStep x1 x2 (at0 xs2) (at1 xs2) xs0) x3 x4 x5 x6 x7) (k0_pay10 (cntStep x1 (at0 xs2) (at1 xs2) (col xs1)) (accStep x1 x2 (at0 xs2) (at1 xs2) xs0) x3 x4 x5 x6 x7) x8 x9 x10 x11 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2)]
  unfold kernelRun0_C
  dsimp only
  sl_unfold_words
  rw [View.canon_unit_zero (S := S1x1) hz2]
  simp only [View.readCov_cons_toLoadRect]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- The last point stores the slide embedding. -/
theorem out0_C_13_eq (hc0 : ¬cond0_0 i) (hc1 : cond0_1 i) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2
      = k0_pay4 (k0_pay8 (cntStep x1 (at0 xs2) (at1 xs2) (col xs1)) (accStep x1 x2 (at0 xs2) (at1 xs2) xs0)) (k0_pay9 (cntStep x1 (at0 xs2) (at1 xs2) (col xs1)) (accStep x1 x2 (at0 xs2) (at1 xs2) xs0) x3 x4 x5 x6 x7) (k0_pay10 (cntStep x1 (at0 xs2) (at1 xs2) (col xs1)) (accStep x1 x2 (at0 xs2) (at1 xs2) xs0) x3 x4 x5 x6 x7) := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2)]
  unfold kernelRun0_C
  dsimp only
  sl_unfold_words
  rw [View.canon_unit_zero (S := S1x512) hz2]
  simp only [View.readCov_cons_toLoadRect]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- The last point stores the attention. -/
theorem out0_C_14_eq (hc0 : ¬cond0_0 i) (hc1 : cond0_1 i) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2
      = k0_pay3 (k0_pay9 (cntStep x1 (at0 xs2) (at1 xs2) (col xs1)) (accStep x1 x2 (at0 xs2) (at1 xs2) xs0) x3 x4 x5 x6 x7) (k0_pay10 (cntStep x1 (at0 xs2) (at1 xs2) (col xs1)) (accStep x1 x2 (at0 xs2) (at1 xs2) xs0) x3 x4 x5 x6 x7) := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2)]
  unfold kernelRun0_C
  dsimp only
  sl_unfold_words
  rw [View.canon_unit_zero (S := S64x1) hz2]
  simp only [View.readCov_cons_toLoadRect]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

/-- The last point stores the number of regions that are not empty. -/
theorem out0_C_15_eq (hc0 : ¬cond0_0 i) (hc1 : cond0_1 i) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2
      = k0_pay6 (k0_pay7 (cntStep x1 (at0 xs2) (at1 xs2) (col xs1))) := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xs0 xs1 xs2)]
  unfold kernelRun0_C
  dsimp only
  sl_unfold_words
  rw [View.canon_unit_zero (S := S1x1) hz2]
  simp only [View.readCov_cons_toLoadRect]
  simp only [View.readAt_eq_ld, Memref.IsWhole.read_unread, accStep, cntStep, xsOf, ysOf, lo0, lo1, col, at0, at1, View.ld_unit_zero (S := S64x512) hz2, View.ld_unit_zero (S := S5000x512) hz2, View.ld_unit_zero (S := S128x512) hz2, View.ld_unit_zero (S := S1x128) hz2, View.ld_unit_zero (S := S256x512) hz2, View.ld_unit_zero (S := S1x256) hz2, View.ld_unit_zero (S := S1x1) hz2]

end Cert.KernelIdeal.Steps

end
-- ==== Proof.Points.lean ====
/-
  What each grid point leaves in the running sums, counts and least coordinates, and what the last one leaves in the
  results, over what the point before left.
-/
module
public import proofs.«01_k».proof.Proof.Gen.KernelIdeal.Value
public import proofs.«01_k».proof.Proof.Steps
@[expose] public section
set_option maxRecDepth 16384
noncomputable section
namespace Cert.KernelIdeal.Points
open Idealize.ShloMosaic Idealize.ShloMosaic.TcCoe Idealize.SL Cert.KernelIdeal Cert.KernelIdeal.Gen Cert.KernelIdeal.Value
  Cert.KernelIdeal.Steps
variable {F : FTy → Type} [FloatOps F] (m : (ℓ : Loc nD τ sig) → Buf (Elt F) ℓ) (c : Dev nD) (t : Fin cfg0.N)
  (acc : Vec F S1x1 .f32 × Vec F S1x512 .f32 × Vec F S64x1 .f32 × Vec F S1x1 .i32 × Vec F S64x512 .f32 × Vec F S64x128 .f32 × Vec F S2 .f32)

/-- The first point starts the running sums from zero. -/
theorem first_acc (h0 : t.val % 10 = 0) (h1 : ¬t.val % 10 = 9) :
    (stAt0 m c t.val t.isLt acc).2.2.2.2.1 = accStep (iblk m c 1 t) (iblk m c 2 t) (lo0 (iblk m c 0 t)) (lo1 (iblk m c 0 t)) k0_pay11 := by
  rw [stAt0_A m c t acc h0 h1]
  dsimp only
  exact sout0_A_0_eq ..

/-- The first point starts the running counts from zero. -/
theorem first_cnt (h0 : t.val % 10 = 0) (h1 : ¬t.val % 10 = 9) :
    col (stAt0 m c t.val t.isLt acc).2.2.2.2.2.1 = cntStep (iblk m c 1 t) (lo0 (iblk m c 0 t)) (lo1 (iblk m c 0 t)) (col k0_pay12) := by
  rw [stAt0_A m c t acc h0 h1]
  dsimp only
  exact sout0_A_1_eq ..

/-- The first point keeps the least first coordinate. -/
theorem first_lo0 (h0 : t.val % 10 = 0) (h1 : ¬t.val % 10 = 9) :
    at0 (stAt0 m c t.val t.isLt acc).2.2.2.2.2.2 = lo0 (iblk m c 0 t) := by
  rw [stAt0_A m c t acc h0 h1]
  dsimp only
  exact sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) (fun h => h1 ((hcond0_1 t).mp h))

/-- The first point keeps the least second coordinate. -/
theorem first_lo1 (h0 : t.val % 10 = 0) (h1 : ¬t.val % 10 = 9) :
    at1 (stAt0 m c t.val t.isLt acc).2.2.2.2.2.2 = lo1 (iblk m c 0 t) := by
  rw [stAt0_A m c t acc h0 h1]
  dsimp only
  exact sout0_A_2_eq1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) (fun h => h1 ((hcond0_1 t).mp h))

/-- A middle point adds its block to the running sums. -/
theorem mid_acc (h0 : ¬t.val % 10 = 0) (h1 : ¬t.val % 10 = 9) :
    (stAt0 m c t.val t.isLt acc).2.2.2.2.1 = accStep (iblk m c 1 t) (iblk m c 2 t) (at0 acc.2.2.2.2.2.2) (at1 acc.2.2.2.2.2.2) acc.2.2.2.2.1 := by
  rw [stAt0_B m c t acc h0 h1]
  dsimp only
  exact sout0_B_0_eq ..

/-- A middle point adds its block to the running counts. -/
theorem mid_cnt (h0 : ¬t.val % 10 = 0) (h1 : ¬t.val % 10 = 9) :
    col (stAt0 m c t.val t.isLt acc).2.2.2.2.2.1 = cntStep (iblk m c 1 t) (at0 acc.2.2.2.2.2.2) (at1 acc.2.2.2.2.2.2) (col acc.2.2.2.2.2.1) := by
  rw [stAt0_B m c t acc h0 h1]
  dsimp only
  exact sout0_B_1_eq ..

/-- A middle point leaves the least coordinates. -/
theorem mid_lo (h0 : ¬t.val % 10 = 0) (h1 : ¬t.val % 10 = 9) :
    (stAt0 m c t.val t.isLt acc).2.2.2.2.2.2 = acc.2.2.2.2.2.2 := by
  rw [stAt0_B m c t acc h0 h1]
  dsimp only
  exact rfl

/-- The logit the last point stores. -/
theorem last_12 (h0 : ¬t.val % 10 = 0) (h1 : t.val % 10 = 9) :
    (stAt0 m c t.val t.isLt acc).1 =
      k0_pay5 (k0_pay8 (cntStep (iblk m c 1 t) (at0 acc.2.2.2.2.2.2) (at1 acc.2.2.2.2.2.2) (col acc.2.2.2.2.2.1)) (accStep (iblk m c 1 t) (iblk m c 2 t) (at0 acc.2.2.2.2.2.2) (at1 acc.2.2.2.2.2.2) acc.2.2.2.2.1)) (k0_pay9 (cntStep (iblk m c 1 t) (at0 acc.2.2.2.2.2.2) (at1 acc.2.2.2.2.2.2) (col acc.2.2.2.2.2.1)) (accStep (iblk m c 1 t) (iblk m c 2 t) (at0 acc.2.2.2.2.2.2) (at1 acc.2.2.2.2.2.2) acc.2.2.2.2.1) (iblk m c 3 t) (iblk m c 4 t) (iblk m c 5 t) (iblk m c 6 t) (iblk m c 7 t)) (k0_pay10 (cntStep (iblk m c 1 t) (at0 acc.2.2.2.2.2.2) (at1 acc.2.2.2.2.2.2) (col acc.2.2.2.2.2.1)) (accStep (iblk m c 1 t) (iblk m c 2 t) (at0 acc.2.2.2.2.2.2) (at1 acc.2.2.2.2.2.2) acc.2.2.2.2.1) (iblk m c 3 t) (iblk m c 4 t) (iblk m c 5 t) (iblk m c 6 t) (iblk m c 7 t)) (iblk m c 8 t) (iblk m c 9 t) (iblk m c 10 t) (iblk m c 11 t) := by
  rw [stAt0_C m c t acc h0 h1]
  dsimp only
  exact out0_C_12_eq ..

/-- The embedding the last point stores. -/
theorem last_13 (h0 : ¬t.val % 10 = 0) (h1 : t.val % 10 = 9) :
    (stAt0 m c t.val t.isLt acc).2.1 =
      k0_pay4 (k0_pay8 (cntStep (iblk m c 1 t) (at0 acc.2.2.2.2.2.2) (at1 acc.2.2.2.2.2.2) (col acc.2.2.2.2.2.1)) (accStep (iblk m c 1 t) (iblk m c 2 t) (at0 acc.2.2.2.2.2.2) (at1 acc.2.2.2.2.2.2) acc.2.2.2.2.1)) (k0_pay9 (cntStep (iblk m c 1 t) (at0 acc.2.2.2.2.2.2) (at1 acc.2.2.2.2.2.2) (col acc.2.2.2.2.2.1)) (accStep (iblk m c 1 t) (iblk m c 2 t) (at0 acc.2.2.2.2.2.2) (at1 acc.2.2.2.2.2.2) acc.2.2.2.2.1) (iblk m c 3 t) (iblk m c 4 t) (iblk m c 5 t) (iblk m c 6 t) (iblk m c 7 t)) (k0_pay10 (cntStep (iblk m c 1 t) (at0 acc.2.2.2.2.2.2) (at1 acc.2.2.2.2.2.2) (col acc.2.2.2.2.2.1)) (accStep (iblk m c 1 t) (iblk m c 2 t) (at0 acc.2.2.2.2.2.2) (at1 acc.2.2.2.2.2.2) acc.2.2.2.2.1) (iblk m c 3 t) (iblk m c 4 t) (iblk m c 5 t) (iblk m c 6 t) (iblk m c 7 t)) := by
  rw [stAt0_C m c t acc h0 h1]
  dsimp only
  exact out0_C_13_eq ..

/-- The attention the last point stores. -/
theorem last_14 (h0 : ¬t.val % 10 = 0) (h1 : t.val % 10 = 9) :
    (stAt0 m c t.val t.isLt acc).2.2.1 =
      k0_pay3 (k0_pay9 (cntStep (iblk m c 1 t) (at0 acc.2.2.2.2.2.2) (at1 acc.2.2.2.2.2.2) (col acc.2.2.2.2.2.1)) (accStep (iblk m c 1 t) (iblk m c 2 t) (at0 acc.2.2.2.2.2.2) (at1 acc.2.2.2.2.2.2) acc.2.2.2.2.1) (iblk m c 3 t) (iblk m c 4 t) (iblk m c 5 t) (iblk m c 6 t) (iblk m c 7 t)) (k0_pay10 (cntStep (iblk m c 1 t) (at0 acc.2.2.2.2.2.2) (at1 acc.2.2.2.2.2.2) (col acc.2.2.2.2.2.1)) (accStep (iblk m c 1 t) (iblk m c 2 t) (at0 acc.2.2.2.2.2.2) (at1 acc.2.2.2.2.2.2) acc.2.2.2.2.1) (iblk m c 3 t) (iblk m c 4 t) (iblk m c 5 t) (iblk m c 6 t) (iblk m c 7 t)) := by
  rw [stAt0_C m c t acc h0 h1]
  dsimp only
  exact out0_C_14_eq ..

/-- The number of regions the last point stores. -/
theorem last_15 (h0 : ¬t.val % 10 = 0) (h1 : t.val % 10 = 9) :
    (stAt0 m c t.val t.isLt acc).2.2.2.1 =
      k0_pay6 (k0_pay7 (cntStep (iblk m c 1 t) (at0 acc.2.2.2.2.2.2) (at1 acc.2.2.2.2.2.2) (col acc.2.2.2.2.2.1))) := by
  rw [stAt0_C m c t acc h0 h1]
  dsimp only
  exact out0_C_15_eq ..

end Cert.KernelIdeal.Points

end
-- ==== Proof.Blocks.lean ====
module
public import proofs.«01_k».proof.Proof.Gen.KernelIdeal.Frame
public import proofs.«01_k».proof.Proof.Steps
public import Idealize.ShloMosaic.Lib.Pipeline.Value
public import Idealize.ShloMosaic.Lib.Pointwise
@[expose] public section
set_option maxRecDepth 16384
noncomputable section
/-! The blocks the pipeline hands to the body at each grid point, as elements of the argument arrays. -/
namespace Cert.KernelIdeal.Blocks
open Idealize.ShloMosaic Idealize.ShloMosaic.TcCoe Idealize.SL Cert.KernelIdeal Cert.KernelIdeal.Gen
variable {F : FTy → Type} [FloatOps F] (m : (ℓ : Loc nD τ sig) → Buf (Elt F) ℓ) (c : Dev nD)

/-- The kernel's first operand: the coordinates transposed. -/
theorem V_v0 : V m c main_call0_v0 =
    transpose S2x50000 [1, 0] (m ((c : Thread nD τ).loc main_arg1)) transposes_S50000x2_S2x50000_1_0 := by
  show StableHlo.after hostOps0 _ (Proc.devRef .tc main_call0_v0) = _
  after_results
  rfl
/-- The kernel's second operand: the coordinates cut into ten blocks. -/
theorem V_v2 : V m c main_call0_v2 =
    transpose S10x2x5000 [1, 0, 2] (shapeCast S2x10x5000
      (transpose S2x50000 [1, 0] (m ((c : Thread nD τ).loc main_arg1)) transposes_S50000x2_S2x50000_1_0)
      shapeCasts_S2x50000_S2x10x5000) transposes_S2x10x5000_S10x2x5000_1_0_2 := by
  show StableHlo.after hostOps0 _ (Proc.devRef .tc main_call0_v2) = _
  after_results
  rfl
/-- The operand made from argument 3: the same values under the shape S1x128. -/
theorem V_v3 : V m c main_call0_v3 =
    shapeCast S1x128 (m ((c : Thread nD τ).loc main_arg3)) shapeCasts_S128_S1x128 := by
  show StableHlo.after hostOps0 _ (Proc.devRef .tc main_call0_v3) = _
  after_results
  rfl
/-- The operand made from argument 5: the same values under the shape S1x128. -/
theorem V_v4 : V m c main_call0_v4 =
    shapeCast S1x128 (m ((c : Thread nD τ).loc main_arg5)) shapeCasts_S128_S1x128 := by
  show StableHlo.after hostOps0 _ (Proc.devRef .tc main_call0_v4) = _
  after_results
  rfl
/-- The operand made from argument 8: the same values under the shape S1x256. -/
theorem V_v5 : V m c main_call0_v5 =
    shapeCast S1x256 (m ((c : Thread nD τ).loc main_arg8)) shapeCasts_S256_S1x256 := by
  show StableHlo.after hostOps0 _ (Proc.devRef .tc main_call0_v5) = _
  after_results
  rfl
/-- The operand made from argument 10: the same values under the shape S1x1. -/
theorem V_v6 : V m c main_call0_v6 =
    shapeCast S1x1 (m ((c : Thread nD τ).loc main_arg10)) shapeCasts_S1_S1x1 := by
  show StableHlo.after hostOps0 _ (Proc.devRef .tc main_call0_v6) = _
  after_results
  rfl
/-- Window 0 is the whole of its operand at every grid point. -/
theorem whole_0 (t : Fin cfg0.N) : (iblk m c 0 t : Vec F S2x50000 .f32) = V m c main_call0_v0 := by
  funext j
  unfold iblk
  rw [View.read_apply]
  show V m c main_call0_v0 _ = V m c main_call0_v0 j
  congr 1
  funext a
  apply Fin.ext
  have hi : ∀ t : Fin cfg0.N, win0_0.index t 0 = 0 ∧ win0_0.index t 1 = 0 := by decide +kernel
  match a with
  | ⟨0, _⟩ => show win0_0.index t 0 * 2 + 1 * (j 0).val = (j 0).val; rw [(hi t).1]; omega
  | ⟨1, _⟩ => show win0_0.index t 1 * 50000 + 1 * (j 1).val = (j 1).val; rw [(hi t).2]; omega
/-- Window 3 is the whole of its operand at every grid point. -/
theorem whole_3 (t : Fin cfg0.N) : (iblk m c 3 t : Vec F S128x512 .f32) = V m c main_arg2 := by
  funext j
  unfold iblk
  rw [View.read_apply]
  show V m c main_arg2 _ = V m c main_arg2 j
  congr 1
  funext a
  apply Fin.ext
  have hi : ∀ t : Fin cfg0.N, win0_3.index t 0 = 0 ∧ win0_3.index t 1 = 0 := by decide +kernel
  match a with
  | ⟨0, _⟩ => show win0_3.index t 0 * 128 + 1 * (j 0).val = (j 0).val; rw [(hi t).1]; omega
  | ⟨1, _⟩ => show win0_3.index t 1 * 512 + 1 * (j 1).val = (j 1).val; rw [(hi t).2]; omega
/-- Window 4 is the whole of its operand at every grid point. -/
theorem whole_4 (t : Fin cfg0.N) : (iblk m c 4 t : Vec F S1x128 .f32) = V m c main_call0_v3 := by
  funext j
  unfold iblk
  rw [View.read_apply]
  show V m c main_call0_v3 _ = V m c main_call0_v3 j
  congr 1
  funext a
  apply Fin.ext
  have hi : ∀ t : Fin cfg0.N, win0_4.index t 0 = 0 ∧ win0_4.index t 1 = 0 := by decide +kernel
  match a with
  | ⟨0, _⟩ => show win0_4.index t 0 * 1 + 1 * (j 0).val = (j 0).val; rw [(hi t).1]; omega
  | ⟨1, _⟩ => show win0_4.index t 1 * 128 + 1 * (j 1).val = (j 1).val; rw [(hi t).2]; omega
/-- Window 5 is the whole of its operand at every grid point. -/
theorem whole_5 (t : Fin cfg0.N) : (iblk m c 5 t : Vec F S128x512 .f32) = V m c main_arg4 := by
  funext j
  unfold iblk
  rw [View.read_apply]
  show V m c main_arg4 _ = V m c main_arg4 j
  congr 1
  funext a
  apply Fin.ext
  have hi : ∀ t : Fin cfg0.N, win0_5.index t 0 = 0 ∧ win0_5.index t 1 = 0 := by decide +kernel
  match a with
  | ⟨0, _⟩ => show win0_5.index t 0 * 128 + 1 * (j 0).val = (j 0).val; rw [(hi t).1]; omega
  | ⟨1, _⟩ => show win0_5.index t 1 * 512 + 1 * (j 1).val = (j 1).val; rw [(hi t).2]; omega
/-- Window 6 is the whole of its operand at every grid point. -/
theorem whole_6 (t : Fin cfg0.N) : (iblk m c 6 t : Vec F S1x128 .f32) = V m c main_call0_v4 := by
  funext j
  unfold iblk
  rw [View.read_apply]
  show V m c main_call0_v4 _ = V m c main_call0_v4 j
  congr 1
  funext a
  apply Fin.ext
  have hi : ∀ t : Fin cfg0.N, win0_6.index t 0 = 0 ∧ win0_6.index t 1 = 0 := by decide +kernel
  match a with
  | ⟨0, _⟩ => show win0_6.index t 0 * 1 + 1 * (j 0).val = (j 0).val; rw [(hi t).1]; omega
  | ⟨1, _⟩ => show win0_6.index t 1 * 128 + 1 * (j 1).val = (j 1).val; rw [(hi t).2]; omega
/-- Window 7 is the whole of its operand at every grid point. -/
theorem whole_7 (t : Fin cfg0.N) : (iblk m c 7 t : Vec F S1x128 .f32) = V m c main_arg6 := by
  funext j
  unfold iblk
  rw [View.read_apply]
  show V m c main_arg6 _ = V m c main_arg6 j
  congr 1
  funext a
  apply Fin.ext
  have hi : ∀ t : Fin cfg0.N, win0_7.index t 0 = 0 ∧ win0_7.index t 1 = 0 := by decide +kernel
  match a with
  | ⟨0, _⟩ => show win0_7.index t 0 * 1 + 1 * (j 0).val = (j 0).val; rw [(hi t).1]; omega
  | ⟨1, _⟩ => show win0_7.index t 1 * 128 + 1 * (j 1).val = (j 1).val; rw [(hi t).2]; omega
/-- Window 8 is the whole of its operand at every grid point. -/
theorem whole_8 (t : Fin cfg0.N) : (iblk m c 8 t : Vec F S256x512 .f32) = V m c main_arg7 := by
  funext j
  unfold iblk
  rw [View.read_apply]
  show V m c main_arg7 _ = V m c main_arg7 j
  congr 1
  funext a
  apply Fin.ext
  have hi : ∀ t : Fin cfg0.N, win0_8.index t 0 = 0 ∧ win0_8.index t 1 = 0 := by decide +kernel
  match a with
  | ⟨0, _⟩ => show win0_8.index t 0 * 256 + 1 * (j 0).val = (j 0).val; rw [(hi t).1]; omega
  | ⟨1, _⟩ => show win0_8.index t 1 * 512 + 1 * (j 1).val = (j 1).val; rw [(hi t).2]; omega
/-- Window 9 is the whole of its operand at every grid point. -/
theorem whole_9 (t : Fin cfg0.N) : (iblk m c 9 t : Vec F S1x256 .f32) = V m c main_call0_v5 := by
  funext j
  unfold iblk
  rw [View.read_apply]
  show V m c main_call0_v5 _ = V m c main_call0_v5 j
  congr 1
  funext a
  apply Fin.ext
  have hi : ∀ t : Fin cfg0.N, win0_9.index t 0 = 0 ∧ win0_9.index t 1 = 0 := by decide +kernel
  match a with
  | ⟨0, _⟩ => show win0_9.index t 0 * 1 + 1 * (j 0).val = (j 0).val; rw [(hi t).1]; omega
  | ⟨1, _⟩ => show win0_9.index t 1 * 256 + 1 * (j 1).val = (j 1).val; rw [(hi t).2]; omega
/-- Window 10 is the whole of its operand at every grid point. -/
theorem whole_10 (t : Fin cfg0.N) : (iblk m c 10 t : Vec F S1x256 .f32) = V m c main_arg9 := by
  funext j
  unfold iblk
  rw [View.read_apply]
  show V m c main_arg9 _ = V m c main_arg9 j
  congr 1
  funext a
  apply Fin.ext
  have hi : ∀ t : Fin cfg0.N, win0_10.index t 0 = 0 ∧ win0_10.index t 1 = 0 := by decide +kernel
  match a with
  | ⟨0, _⟩ => show win0_10.index t 0 * 1 + 1 * (j 0).val = (j 0).val; rw [(hi t).1]; omega
  | ⟨1, _⟩ => show win0_10.index t 1 * 256 + 1 * (j 1).val = (j 1).val; rw [(hi t).2]; omega
/-- Window 11 is the whole of its operand at every grid point. -/
theorem whole_11 (t : Fin cfg0.N) : (iblk m c 11 t : Vec F S1x1 .f32) = V m c main_call0_v6 := by
  funext j
  unfold iblk
  rw [View.read_apply]
  show V m c main_call0_v6 _ = V m c main_call0_v6 j
  congr 1
  funext a
  apply Fin.ext
  have hi : ∀ t : Fin cfg0.N, win0_11.index t 0 = 0 ∧ win0_11.index t 1 = 0 := by decide +kernel
  match a with
  | ⟨0, _⟩ => show win0_11.index t 0 * 1 + 1 * (j 0).val = (j 0).val; rw [(hi t).1]; omega
  | ⟨1, _⟩ => show win0_11.index t 1 * 1 + 1 * (j 1).val = (j 1).val; rw [(hi t).2]; omega
/-- A row number of the arrays, from the block's number and the row inside the block. -/
def rowOf (t : Fin cfg0.N) (k : Fin 5000) : Fin 50000 :=
  ⟨t.val * 5000 + k.val, by
    have h : t.val < 10 := lt_of_lt_of_eq t.isLt N_0
    omega⟩

/-- Window 2 at a grid point holds the point's 5000 rows of the features. -/
theorem feat_apply (t : Fin cfg0.N) (k : Fin 5000) (d : Fin 512) :
    (iblk m c 2 t : Vec F S5000x512 .f32) (ix2 k d) = m ((c : Thread nD τ).loc main_arg0) (ix2 (rowOf t k) d) := by
  unfold iblk
  rw [View.read_apply, ← V_main_arg0 m c]
  show V m c main_arg0 _ = V m c main_arg0 _
  congr 1
  funext a
  apply Fin.ext
  have hi : ∀ t : Fin cfg0.N, win0_2.index t 0 = t.val ∧ win0_2.index t 1 = 0 := by decide +kernel
  match a with
  | ⟨0, _⟩ => show win0_2.index t 0 * 5000 + 1 * k.val = t.val * 5000 + k.val; rw [(hi t).1]; omega
  | ⟨1, _⟩ => show win0_2.index t 1 * 512 + 1 * d.val = d.val; rw [(hi t).2]; omega

/-- The cut coordinates at a block, an axis and a row. -/
theorem v2_of (x : Vec F S50000x2 .f32) (i : Fin 10) (a : Fin 2) (k : Fin 5000) :
    transpose S10x2x5000 [1, 0, 2] (shapeCast S2x10x5000
      (transpose S2x50000 [1, 0] x transposes_S50000x2_S2x50000_1_0)
      shapeCasts_S2x50000_S2x10x5000) transposes_S2x10x5000_S10x2x5000_1_0_2 (ix3 i a k)
      = x (ix2 ⟨i.val * 5000 + k.val, by omega⟩ a) := by
  pointwise

/-- Window 1 at a grid point holds the point's 5000 rows of the coordinates, one axis a row. -/
theorem coord_apply (t : Fin cfg0.N) (a : Fin 2) (k : Fin 5000) :
    (iblk m c 1 t : Vec F S1x2x5000 .f32) (ix3 0 a k) = m ((c : Thread nD τ).loc main_arg1) (ix2 (rowOf t k) a) := by
  have h10 : t.val < 10 := lt_of_lt_of_eq t.isLt N_0
  refine Eq.trans ?_ (v2_of (F := F) (m ((c : Thread nD τ).loc main_arg1)) ⟨t.val, h10⟩ a k)
  rw [← V_v2 m c]
  unfold iblk
  rw [View.read_apply]
  show V m c main_call0_v2 _ = V m c main_call0_v2 _
  congr 1
  funext b
  apply Fin.ext
  have hi : ∀ t : Fin cfg0.N, win0_1.index t 0 = t.val ∧ win0_1.index t 1 = 0 ∧ win0_1.index t 2 = 0 := by
    decide +kernel
  match b with
  | ⟨0, _⟩ => show win0_1.index t 0 * 1 + 1 * 0 = t.val; rw [(hi t).1]; omega
  | ⟨1, _⟩ => show win0_1.index t 1 * 2 + 1 * a.val = a.val; rw [(hi t).2.1]; omega
  | ⟨2, _⟩ => show win0_1.index t 2 * 5000 + 1 * k.val = k.val; rw [(hi t).2.2]; omega

/-- The first coordinates of a block. -/
theorem xs_apply (x1 : Vec F S1x2x5000 .f32) (k : Fin 5000) :
    Steps.xsOf x1 (ix3 0 0 k) = x1 (ix3 0 0 k) := by
  unfold Steps.xsOf
  show x1 _ = x1 _
  congr 1
  funext b
  apply Fin.ext
  match b with
  | ⟨0, _⟩ => rfl
  | ⟨1, _⟩ => rfl
  | ⟨2, _⟩ => show 0 + 1 * k.val = k.val; omega

/-- The second coordinates of a block. -/
theorem ys_apply (x1 : Vec F S1x2x5000 .f32) (k : Fin 5000) :
    Steps.ysOf x1 (ix3 0 0 k) = x1 (ix3 0 1 k) := by
  unfold Steps.ysOf
  show x1 _ = x1 _
  congr 1
  funext b
  apply Fin.ext
  match b with
  | ⟨0, _⟩ => rfl
  | ⟨1, _⟩ => rfl
  | ⟨2, _⟩ => show 0 + 1 * k.val = k.val; omega
end Cert.KernelIdeal.Blocks
end
-- ==== Proof.SpecRegion.lean ====
/-
  The region id of a patch as a function of its two coordinates and the least coordinates.
-/
module

public import Idealize.ShloMosaic.Lib.Pointwise

@[expose] public section

noncomputable section

namespace Cert.Spec

open Idealize.ShloMosaic

/-- The cell of a scaled coordinate: truncated to an integer and held between 0 and 7. -/
def cell (s : EReal) : BitVec 32 :=
  IntOp.minsi 7#32 (IntOp.maxsi 0#32 (FloatOps.fptosi (F := Ideal) (φ := .f32) 32 s))

/-- The region id: eight times the row's cell, plus the column's cell. -/
def region (sx sy : EReal) : BitVec 32 := IntOp.addi (IntOp.muli (cell sy) 8#32) (cell sx)

/-- A coordinate less the least one, times eight. -/
def scaled (c lo : EReal) : EReal := (c - lo) * Ideal.ofBits .f32 1090519040#32

/-- The least value of a column. -/
def least (f : Fin 50000 → EReal) : EReal := (Finset.univ : Finset (Fin 50000)).fold min ⊤ f

/-- The greatest value of a column. -/
def greatest (f : Fin 50000 → EReal) : EReal := (Finset.univ : Finset (Fin 50000)).fold max ⊥ f

/-- A coordinate less the least one, over the span, times eight. -/
def spanned (c lo span : EReal) : EReal := Ideal.div (c - lo) span * Ideal.ofBits .f32 1090519040#32

/-- A comparison of words, widened and read as a float, is one or zero. -/
theorem sitofp_cmpi_eq (x y : BitVec 32) :
    (FloatOps.sitofp (F := Ideal) .f32 (BitVec.setWidth 32 (IntOp.cmpi .eq x y)) : EReal) = if y = x then 1 else 0 := by
  by_cases h : y = x
  · subst h
    simp [IntOp.cmpi, FloatOps.sitofp]
  · have h' : ¬ x = y := fun e => h e.symm
    rw [if_neg h]
    have e : (x == y) = false := by simpa using h'
    simp [IntOp.cmpi, FloatOps.sitofp, e]

/-- A one-or-zero factor selects. -/
theorem ite_mul_left (p : Prop) [Decidable p] (x : EReal) : (if p then (1 : EReal) else 0) * x = if p then x else 0 := by
  split <;> simp

/-- The word of plus infinity reads as the greatest extended real. -/
theorem ofBits_pos_inf : Ideal.ofBits .f32 0x7F800000#32 = ⊤ := by
  simp [Ideal.ofBits, Ideal.ieee]

end Cert.Spec

end
-- ==== Proof.KernelBlock.lean ====
/-
  What one grid point of the kernel computes, read at an index: the least coordinates, the region ids of a block's
  patches as a 64 by 5000 table of ones and zeros, and the block's sums and counts added to the running ones.
-/
module

public import proofs.«01_k».proof.Proof.Gen.KernelIdeal.Skeleton
public import proofs.«01_k».proof.Proof.SpecRegion

@[expose] public section

set_option maxRecDepth 16384

noncomputable section

namespace Cert.KernelIdeal.Block

open Idealize.ShloMosaic Cert.KernelIdeal Cert.KernelIdeal.Gen

/-- The least first coordinate. -/
theorem pay13_eq (v : FVec Ideal S1x50000 .f32) : k0_pay13 (F := Ideal) v = Spec.least (fun n => v (ix2 0 n)) := by
  unfold Spec.least
  rw [← Spec.ofBits_pos_inf]
  pointwise [k0_pay13]

/-- The least second coordinate. -/
theorem pay14_eq (v : FVec Ideal S1x50000 .f32) : k0_pay14 (F := Ideal) v = Spec.least (fun n => v (ix2 0 n)) := by
  unfold Spec.least
  rw [← Spec.ofBits_pos_inf]
  pointwise [k0_pay14]

/-- The table of ones and zeros: whether patch `n` of the block lies in region `r`. -/
theorem pay15_apply (v3 v5 : FVec Ideal S1x1x5000 .f32) (v7 v17 : EReal) (r : Fin 64) (n : Fin 5000) :
    k0_pay15 (F := Ideal) v3 v5 v7 v17 (ix2 r n)
      = if Spec.region (Spec.scaled (v3 (ix3 0 0 n)) v7) (Spec.scaled (v5 (ix3 0 0 n)) v17) = BitVec.ofNat 32 r.val
        then 1 else 0 := by
  rw [← Spec.sitofp_cmpi_eq]
  unfold Spec.region Spec.cell Spec.scaled
  pointwise [k0_pay15]

/-- The running sums after a block: each gains the table row against the feature column. -/
theorem pay1_apply (v36 : FVec Ideal S64x5000 .bf16) (v37 : FVec Ideal S64x512 .f32) (v38 : FVec Ideal S5000x512 .f32) (r : Fin 64) (d : Fin 512) :
    k0_pay1 v36 v37 v38 (ix2 r d) = v37 (ix2 r d) + ∑ n, v36 (ix2 r n) * v38 (ix2 n d) := by
  pointwise [k0_pay1]

/-- The running counts after a block: each gains its row of the table. -/
theorem pay2_apply (v35 : FVec Ideal S64x5000 .f32) (v45 : FVec Ideal S64x1 .f32) (r : Fin 64) :
    k0_pay2 v35 v45 (ix2 r 0) = v45 (ix2 r 0) + ∑ n, v35 (ix2 r n) := by
  pointwise [k0_pay2]

/-- The table under the narrower format is the table. -/
theorem pay16_apply (v3 v5 : FVec Ideal S1x1x5000 .f32) (v7 v17 : EReal) (r : Fin 64) (n : Fin 5000) :
    k0_pay16 (F := Ideal) v3 v5 v7 v17 (ix2 r n) = k0_pay15 (F := Ideal) v3 v5 v7 v17 (ix2 r n) := by
  pointwise [k0_pay16]

/-- The sums start from zero. -/
theorem pay11_apply (r : Fin 64) (d : Fin 512) : k0_pay11 (F := Ideal) (ix2 r d) = 0 := by
  pointwise [k0_pay11]

/-- The counts start from zero. -/
theorem pay12_apply (r : Fin 64) (d : Fin 128) : k0_pay12 (F := Ideal) (ix2 r d) = 0 := by
  pointwise [k0_pay12]

/-- The weights under a leading axis of one, at an index. -/
theorem cast_apply (x : FVec Ideal S64x1 .f32) (r : Fin 64) :
    shapeCast S1x64x1 x shapeCasts_S64x1_S1x64x1 (ix3 0 r 0) = x (ix2 r 0) := by
  pointwise

/-- The weights' second form holds the same values. -/
theorem pay10_apply (v55 : FVec Ideal S64x1 .f32) (v56 : FVec Ideal S64x512 .f32) (v63 v69 : FVec Ideal S128x512 .f32)
    (v65 v71 v78 : FVec Ideal S1x128 .f32) (r : Fin 64) :
    k0_pay10 (F := Ideal) v55 v56 v63 v65 v69 v71 v78 (ix3 0 r 0)
      = k0_pay9 (F := Ideal) v55 v56 v63 v65 v69 v71 v78 (ix2 r 0) := by
  unfold k0_pay10
  exact cast_apply _ r

end Cert.KernelIdeal.Block

end
-- ==== Proof.Spec.lean ====
/-
  The region head as plain functions of extended reals: counts, sums, pooled features, gate, scores, attention,
  slide embedding, logit and the number of nonempty regions. No program is named here; the kernel's and the
  reference's terms are both read into these functions.
-/
module

public import Idealize.ShloMosaic.Lib.Pointwise

@[expose] public section

noncomputable section

namespace Cert.Spec

open Idealize.ShloMosaic

/-- How many patches carry region id `r`. -/
def count (rid : Fin 50000 → BitVec 32) (r : Fin 64) : EReal :=
  ∑ n, if rid n = BitVec.ofNat 32 r.val then 1 else 0

/-- The sum of feature `d` over the patches that carry region id `r`. -/
def total (rid : Fin 50000 → BitVec 32) (X : Fin 50000 → Fin 512 → EReal) (r : Fin 64) (d : Fin 512) : EReal :=
  ∑ n, if rid n = BitVec.ofNat 32 r.val then X n d else 0

/-- The pooled features: a region's sums over its count, the count at least one. -/
def pooled (cnt : Fin 64 → EReal) (sums : Fin 64 → Fin 512 → EReal) (r : Fin 64) (d : Fin 512) : EReal :=
  Ideal.div (sums r d) (max (cnt r) 1)

/-- A linear layer of the pooled features. -/
def layer (P : Fin 64 → Fin 512 → EReal) (W : Fin 128 → Fin 512 → EReal) (b : Fin 128 → EReal) (r : Fin 64) (a : Fin 128) : EReal :=
  (∑ d, P r d * W a d) + b a

/-- A region's score: the gate (tanh of one layer times the logistic of the other) against the score weights. -/
def score (U V : Fin 64 → Fin 128 → EReal) (w : Fin 128 → EReal) (r : Fin 64) : EReal :=
  ∑ a, Ideal.tanh (U r a) * Ideal.logistic (V r a) * w a

/-- A region's score, minus infinity when the region is empty. -/
def masked (cnt : Fin 64 → EReal) (s : Fin 64 → EReal) (r : Fin 64) : EReal :=
  Scalar.select (Ideal.cmp .ogt (cnt r) 0) (s r) ⊥

/-- The exponential of a score less the greatest score. -/
def weight (s : Fin 64 → EReal) (r : Fin 64) : EReal :=
  Ideal.exp (s r - (Finset.univ : Finset (Fin 64)).fold max ⊥ s)

/-- The attention of a region: its weight over the sum of the weights. -/
def attn (e : Fin 64 → EReal) (r : Fin 64) : EReal := Ideal.div (e r) (∑ q, e q)

/-- The slide embedding: the pooled features averaged by attention. -/
def emb (a : Fin 64 → EReal) (P : Fin 64 → Fin 512 → EReal) (d : Fin 512) : EReal := ∑ r, a r * P r d

/-- The logit: a rectified layer of the embedding against the last weights, plus the last bias. -/
def logit (E : Fin 512 → EReal) (W : Fin 256 → Fin 512 → EReal) (b w : Fin 256 → EReal) (c : EReal) : EReal :=
  (∑ h, max ((∑ d, E d * W h d) + b h) 0 * w h) + c

/-- How many regions are not empty, as a 32-bit word. -/
def regions (cnt : Fin 64 → EReal) : BitVec 32 :=
  (Finset.univ : Finset (Fin 64)).fold IntOp.addi 0#32 fun r => (Ideal.cmp .ogt (cnt r) 0).setWidth 32

/-- The word of minus infinity reads as the least extended real. -/
theorem ofBits_neg_inf : Ideal.ofBits .f32 0xFF800000#32 = ⊥ := by
  simp [Ideal.ofBits, Ideal.ieee]

/-- A fold over pairs whose second part has one value is the fold over the first part. -/
theorem fold_pair_one {α : Type*} {n : Nat} (op : α → α → α) [Std.Commutative op] [Std.Associative op] (b : α) (f : Fin n → α) :
    (Finset.univ : Finset (Fin n × Fin 1)).fold op b (fun x => f x.1) = (Finset.univ : Finset (Fin n)).fold op b f := by
  have e : (Finset.univ : Finset (Fin n × Fin 1))
      = Finset.univ.map ⟨fun a : Fin n => (a, (0 : Fin 1)), fun a b h => (Prod.mk.inj h).1⟩ := by
    ext ⟨a, c⟩
    obtain rfl := Subsingleton.elim c 0
    simp only [Finset.mem_univ, Finset.mem_map, true_and, true_iff]
    exact ⟨a, rfl⟩
  rw [e, Finset.fold_map]
  rfl

end Cert.Spec

end
-- ==== Proof.Fold.lean ====
/-
  The running sums, counts and least coordinates after each grid point, and the whole sums and counts after the last:
  the sums and counts of all patches by region id.
-/
module
public import proofs.«01_k».proof.Proof.Points
public import proofs.«01_k».proof.Proof.Blocks
public import proofs.«01_k».proof.Proof.KernelBlock
public import proofs.«01_k».proof.Proof.Spec
@[expose] public section
set_option maxRecDepth 16384
noncomputable section
namespace Cert.KernelIdeal.Fold
open Idealize.ShloMosaic Idealize.ShloMosaic.TcCoe Idealize.SL Cert.KernelIdeal Cert.KernelIdeal.Gen Cert.KernelIdeal.Value
  Cert.KernelIdeal.Steps Cert.KernelIdeal.Blocks

/-- The sum of the first `N` values. -/
def part (g : Fin 50000 → EReal) (N : ℕ) : EReal :=
  ∑ k ∈ Finset.range N, if h : k < 50000 then g ⟨k, h⟩ else 0

/-- No values sum to zero. -/
theorem part_zero (g : Fin 50000 → EReal) : part g 0 = 0 := Finset.sum_range_zero _

/-- One block's values join the sum of the blocks before it. -/
theorem part_step (g : Fin 50000 → EReal) (t : Fin cfg0.N) :
    part g (t.val * 5000) + ∑ k : Fin 5000, g (rowOf t k) = part g ((t.val + 1) * 5000) := by
  have h10 : t.val < 10 := lt_of_lt_of_eq t.isLt N_0
  unfold part
  rw [Nat.succ_mul, Finset.sum_range_add, ← Fin.sum_univ_eq_sum_range
    (fun x => if h : t.val * 5000 + x < 50000 then g ⟨t.val * 5000 + x, h⟩ else 0) 5000]
  congr 1
  refine Finset.sum_congr rfl fun k _ => ?_
  rw [dif_pos (by have := k.isLt; omega)]
  rfl

/-- All values: the whole sum. -/
theorem part_all (g : Fin 50000 → EReal) : part g 50000 = ∑ n, g n := by
  unfold part
  rw [← Fin.sum_univ_eq_sum_range (fun x => if h : x < 50000 then g ⟨x, h⟩ else 0) 50000]
  refine Finset.sum_congr rfl fun k _ => ?_
  rw [dif_pos k.isLt]

variable (m : (ℓ : Loc nD τ sig) → Buf (Elt Ideal) ℓ) (c : Dev nD)

/-- The features the kernel is given. -/
def feat (n : Fin 50000) (d : Fin 512) : EReal := m ((c : Thread nD τ).loc main_arg0) (ix2 n d)

/-- The coordinates the kernel is given. -/
def coord (n : Fin 50000) (a : Fin 2) : EReal := m ((c : Thread nD τ).loc main_arg1) (ix2 n a)

/-- The least coordinate along an axis. -/
def low (a : Fin 2) : EReal := Spec.least fun n => coord m c n a

/-- The region id of a patch. -/
def rid (n : Fin 50000) : BitVec 32 :=
  Spec.region (Spec.scaled (coord m c n 0) (low m c 0)) (Spec.scaled (coord m c n 1) (low m c 1))

/-- The transposed coordinates at an axis and a patch. -/
theorem v0_of (x : Vec Ideal S50000x2 .f32) (a : Fin 2) (n : Fin 50000) :
    transpose S2x50000 [1, 0] x transposes_S50000x2_S2x50000_1_0 (ix2 a n) = x (ix2 n a) := by
  pointwise

/-- Window 0 holds the coordinates, one axis a row. -/
theorem axis_apply (t : Fin cfg0.N) (a : Fin 2) (n : Fin 50000) :
    (iblk m c 0 t : Vec Ideal S2x50000 .f32) (ix2 a n) = coord m c n a := by
  rw [whole_0, V_v0]
  exact v0_of _ a n

/-- The first row of a two-row block. -/
theorem row0_apply (x : Vec Ideal S2x50000 .f32) (n : Fin 50000) :
    View.ld x (Rect.unit ![0, 0] S1x50000.size inb_S2x50000_S1x50000_0_0) (ix2 0 n) = x (ix2 0 n) := by
  show x _ = x _
  congr 1
  funext b
  apply Fin.ext
  match b with
  | ⟨0, _⟩ => rfl
  | ⟨1, _⟩ => show 0 + 1 * n.val = n.val; omega

/-- The second row of a two-row block. -/
theorem row1_apply (x : Vec Ideal S2x50000 .f32) (n : Fin 50000) :
    View.ld x (Rect.unit ![1, 0] S1x50000.size inb_S2x50000_S1x50000_1_0) (ix2 0 n) = x (ix2 1 n) := by
  show x _ = x _
  congr 1
  funext b
  apply Fin.ext
  match b with
  | ⟨0, _⟩ => rfl
  | ⟨1, _⟩ => show 0 + 1 * n.val = n.val; omega

/-- The least first coordinate, as the first point finds it. -/
theorem lo0_eq (t : Fin cfg0.N) : lo0 (F := Ideal) (iblk m c 0 t) = low m c 0 := by
  unfold lo0 low
  refine (Block.pay13_eq _).trans (congrArg Spec.least (funext fun n => ?_))
  exact (row0_apply _ n).trans (axis_apply m c t 0 n)

/-- The least second coordinate, as the first point finds it. -/
theorem lo1_eq (t : Fin cfg0.N) : lo1 (F := Ideal) (iblk m c 0 t) = low m c 1 := by
  unfold lo1 low
  refine (Block.pay14_eq _).trans (congrArg Spec.least (funext fun n => ?_))
  exact (row1_apply _ n).trans (axis_apply m c t 1 n)

/-- A block's table of ones and zeros, by region id. -/
theorem table_apply (t : Fin cfg0.N) (r : Fin 64) (k : Fin 5000) :
    k0_pay15 (F := Ideal) (xsOf (iblk m c 1 t)) (ysOf (iblk m c 1 t)) (low m c 0) (low m c 1) (ix2 r k)
      = if rid m c (rowOf t k) = BitVec.ofNat 32 r.val then 1 else 0 := by
  refine (Block.pay15_apply _ _ _ _ r k).trans ?_
  rw [xs_apply, ys_apply, coord_apply, coord_apply]
  rfl

/-- The running sums after a block. -/
theorem accStep_apply (t : Fin cfg0.N) (acc : Vec Ideal S64x512 .f32) (r : Fin 64) (d : Fin 512) :
    accStep (F := Ideal) (iblk m c 1 t) (iblk m c 2 t) (low m c 0) (low m c 1) acc (ix2 r d)
      = acc (ix2 r d) + ∑ k : Fin 5000, if rid m c (rowOf t k) = BitVec.ofNat 32 r.val then feat m c (rowOf t k) d else 0 := by
  unfold accStep
  refine (Block.pay1_apply _ _ _ r d).trans ?_
  congr 1
  refine Finset.sum_congr rfl fun k _ => ?_
  rw [Block.pay16_apply, table_apply, Spec.ite_mul_left, feat_apply]
  rfl

/-- The running counts after a block. -/
theorem cntStep_apply (t : Fin cfg0.N) (cnt : Vec Ideal S64x1 .f32) (r : Fin 64) :
    cntStep (F := Ideal) (iblk m c 1 t) (low m c 0) (low m c 1) cnt (ix2 r 0)
      = cnt (ix2 r 0) + ∑ k : Fin 5000, if rid m c (rowOf t k) = BitVec.ofNat 32 r.val then 1 else 0 := by
  unfold cntStep
  refine (Block.pay2_apply _ _ r).trans (congrArg (cnt (ix2 r 0) + ·) ?_)
  refine Finset.sum_congr rfl fun k _ => ?_
  rw [table_apply]

/-- The terms of a region's sum. -/
def termS (r : Fin 64) (d : Fin 512) (n : Fin 50000) : EReal :=
  if rid m c n = BitVec.ofNat 32 r.val then feat m c n d else 0

/-- The terms of a region's count. -/
def termC (r : Fin 64) (n : Fin 50000) : EReal := if rid m c n = BitVec.ofNat 32 r.val then 1 else 0

/-- The column the counts are read from starts from zero. -/
theorem col_zero (r : Fin 64) : col (F := Ideal) (k0_pay12 (F := Ideal)) (ix2 r 0) = 0 := by
  show k0_pay12 (F := Ideal) _ = 0
  rw [eq_ix2 (colRect.idx _)]
  exact Block.pay12_apply _ _

/-- What the running values hold after point `n`. -/
def Inv (n : ℕ) (s : Vec Ideal S1x1 .f32 × Vec Ideal S1x512 .f32 × Vec Ideal S64x1 .f32 × Vec Ideal S1x1 .i32 × Vec Ideal S64x512 .f32 × Vec Ideal S64x128 .f32 × Vec Ideal S2 .f32) : Prop :=
  at0 s.2.2.2.2.2.2 = low m c 0 ∧ at1 s.2.2.2.2.2.2 = low m c 1
    ∧ (∀ r d, s.2.2.2.2.1 (ix2 r d) = part (termS m c r d) ((n + 1) * 5000))
    ∧ ∀ r, col s.2.2.2.2.2.1 (ix2 r 0) = part (termC m c r) ((n + 1) * 5000)

/-- The first point establishes the invariant. -/
theorem inv_first (hn : 0 < cfg0.N) : Inv m c 0 (outsAt0 m c 0 hn) := by
  rw [outsAt0_zero]
  have h0 : (⟨0, hn⟩ : Fin cfg0.N).val % 10 = 0 := rfl
  have h1 : ¬(⟨0, hn⟩ : Fin cfg0.N).val % 10 = 9 := by show ¬0 % 10 = 9; decide
  refine ⟨?_, ?_, fun r d => ?_, fun r => ?_⟩
  · exact (Points.first_lo0 m c ⟨0, hn⟩ _ h0 h1).trans (lo0_eq m c _)
  · exact (Points.first_lo1 m c ⟨0, hn⟩ _ h0 h1).trans (lo1_eq m c _)
  · refine (congrFun (Points.first_acc m c ⟨0, hn⟩ _ h0 h1) _).trans ?_
    rw [lo0_eq, lo1_eq, accStep_apply, Block.pay11_apply, ← part_step _ ⟨0, hn⟩]
    exact congrArg (· + _) (Finset.sum_range_zero _).symm
  · refine (congrFun (Points.first_cnt m c ⟨0, hn⟩ _ h0 h1) _).trans ?_
    rw [lo0_eq, lo1_eq, cntStep_apply, col_zero, ← part_step _ ⟨0, hn⟩]
    exact congrArg (· + _) (Finset.sum_range_zero _).symm

/-- A middle point keeps the invariant. -/
theorem inv_mid (n : ℕ) (hn : n + 1 < cfg0.N) (h9 : n + 1 < 9) (s) (hs : Inv m c n s) :
    Inv m c (n + 1) (stAt0 m c (n + 1) hn s) := by
  have h0 : ¬(⟨n + 1, hn⟩ : Fin cfg0.N).val % 10 = 0 := by show ¬(n + 1) % 10 = 0; omega
  have h1 : ¬(⟨n + 1, hn⟩ : Fin cfg0.N).val % 10 = 9 := by show ¬(n + 1) % 10 = 9; omega
  obtain ⟨ha, hb, hS, hC⟩ := hs
  have hl := Points.mid_lo m c ⟨n + 1, hn⟩ s h0 h1
  refine ⟨?_, ?_, fun r d => ?_, fun r => ?_⟩
  · exact (congrArg at0 hl).trans ha
  · exact (congrArg at1 hl).trans hb
  · refine (congrFun (Points.mid_acc m c ⟨n + 1, hn⟩ s h0 h1) _).trans ?_
    rw [ha, hb, accStep_apply, hS]
    exact part_step (termS m c r d) ⟨n + 1, hn⟩
  · refine (congrFun (Points.mid_cnt m c ⟨n + 1, hn⟩ s h0 h1) _).trans ?_
    rw [ha, hb, cntStep_apply, hC]
    exact part_step (termC m c r) ⟨n + 1, hn⟩

/-- The invariant holds at every point before the last. -/
theorem inv_all : ∀ (n : ℕ) (hn : n < cfg0.N), n < 9 → Inv m c n (outsAt0 m c n hn)
  | 0, hn, _ => inv_first m c hn
  | n + 1, hn, h9 => by
    rw [outsAt0_succ]
    exact inv_mid m c n hn h9 _ (inv_all n _ (by omega))

/-- After the last point all patches have been seen. -/
theorem whole_len (hn : 9 < cfg0.N) : ((⟨9, hn⟩ : Fin cfg0.N).val + 1) * 5000 = 50000 := by
  show (9 + 1) * 5000 = 50000
  norm_num

/-- The last point's sums are the sums of all patches by region id. -/
theorem last_acc (hn : 9 < cfg0.N) (s) (hs : Inv m c 8 s) (r : Fin 64) (d : Fin 512) :
    accStep (F := Ideal) (iblk m c 1 ⟨9, hn⟩) (iblk m c 2 ⟨9, hn⟩) (at0 s.2.2.2.2.2.2) (at1 s.2.2.2.2.2.2) s.2.2.2.2.1 (ix2 r d)
      = Spec.total (rid m c) (feat m c) r d := by
  obtain ⟨ha, hb, hS, hC⟩ := hs
  rw [ha, hb, accStep_apply, hS]
  refine (part_step (termS m c r d) ⟨9, hn⟩).trans ?_
  rw [whole_len hn, part_all]
  rfl

/-- The last point's counts are the counts of all patches by region id. -/
theorem last_cnt (hn : 9 < cfg0.N) (s) (hs : Inv m c 8 s) (r : Fin 64) :
    cntStep (F := Ideal) (iblk m c 1 ⟨9, hn⟩) (at0 s.2.2.2.2.2.2) (at1 s.2.2.2.2.2.2) (col s.2.2.2.2.2.1) (ix2 r 0)
      = Spec.count (rid m c) r := by
  obtain ⟨ha, hb, hS, hC⟩ := hs
  rw [ha, hb, cntStep_apply, hC]
  refine (part_step (termC m c r) ⟨9, hn⟩).trans ?_
  rw [whole_len hn, part_all]
  rfl

end Cert.KernelIdeal.Fold

end
-- ==== Proof.KernelHead.lean ====
/-
  What the kernel's last grid point computes of the finished sums and counts, read at an index: each payload of the
  head is the function of the same name in Proof/Spec.lean.
-/
module

public import proofs.«01_k».proof.Proof.Gen.KernelIdeal.Skeleton
public import proofs.«01_k».proof.Proof.Spec

@[expose] public section

set_option maxRecDepth 16384

noncomputable section

namespace Cert.KernelIdeal.Head

open Idealize.ShloMosaic Cert.KernelIdeal Cert.KernelIdeal.Gen

variable (v55 : Vec Ideal S64x1 .f32) (v56 : Vec Ideal S64x512 .f32)

/-- The quotient of sums and counts is the pooled features. -/
theorem pay8_apply (r : Fin 64) (d : Fin 512) :
    k0_pay8 v55 v56 (ix2 r d) = Spec.pooled (fun r => v55 (ix2 r 0)) (fun r d => v56 (ix2 r d)) r d := by
  unfold Spec.pooled
  pointwise [k0_pay8]

/-- The test for a region that is not empty. -/
theorem pay7_apply (r : Fin 64) : k0_pay7 v55 (ix2 r 0) = Ideal.cmp .ogt (v55 (ix2 r 0)) 0 := by
  pointwise [k0_pay7]

variable (v63 v69 : Vec Ideal S128x512 .f32) (v65 v71 v78 : Vec Ideal S1x128 .f32)

/-- The weights of the regions: exponentials of masked scores less the greatest. -/
theorem pay9_apply (r : Fin 64) :
    k0_pay9 v55 v56 v63 v65 v69 v71 v78 (ix2 r 0)
      = Spec.weight (Spec.masked (fun r => v55 (ix2 r 0)) (Spec.score
          (Spec.layer (fun r d => k0_pay8 v55 v56 (ix2 r d)) (fun a d => v63 (ix2 a d)) (fun a => v65 (ix2 0 a)))
          (Spec.layer (fun r d => k0_pay8 v55 v56 (ix2 r d)) (fun a d => v69 (ix2 a d)) (fun a => v71 (ix2 0 a)))
          (fun a => v78 (ix2 0 a)))) r := by
  unfold Spec.weight Spec.masked Spec.score Spec.layer
  pointwise [k0_pay9, k0_pay7]
  rw [Spec.ofBits_neg_inf]
  congr 2

variable (v62 : Vec Ideal S64x512 .f32) (v91 : Vec Ideal S64x1 .f32) (v92 : Vec Ideal S1x64x1 .f32)

/-- The attention of the regions. -/
theorem pay3_apply (h : ∀ r : Fin 64, v92 (ix3 0 r 0) = v91 (ix2 r 0)) (r : Fin 64) :
    k0_pay3 (F := Ideal) v91 v92 (ix2 r 0) = Spec.attn (fun r => v91 (ix2 r 0)) r := by
  unfold Spec.attn
  pointwise [k0_pay3]
  simp only [Fin.sum_univ_one]
  congr 1
  exact Finset.sum_congr rfl fun q _ => h q

/-- The slide embedding. -/
theorem pay4_apply (d : Fin 512) :
    k0_pay4 (F := Ideal) v62 v91 v92 (ix2 0 d)
      = Spec.emb (fun r => k0_pay3 (F := Ideal) v91 v92 (ix2 r 0)) (fun r d => v62 (ix2 r d)) d := by
  unfold Spec.emb
  pointwise [k0_pay4]

variable (v102 : Vec Ideal S256x512 .f32) (v104 v109 : Vec Ideal S1x256 .f32) (v113 : Vec Ideal S1x1 .f32)

/-- The logit. -/
theorem pay5_apply :
    k0_pay5 v62 v91 v92 v102 v104 v109 v113 (ix2 0 0)
      = Spec.logit (fun d => k0_pay4 (F := Ideal) v62 v91 v92 (ix2 0 d)) (fun j d => v102 (ix2 j d)) (fun j => v104 (ix2 0 j))
          (fun j => v109 (ix2 0 j)) (v113 (ix2 0 0)) := by
  unfold Spec.logit
  pointwise [k0_pay5]

/-- The number of regions that are not empty. -/
theorem pay6_apply : k0_pay6 (k0_pay7 v55) (ix2 0 0) = Spec.regions (fun r => v55 (ix2 r 0)) := by
  unfold Spec.regions
  pointwise [k0_pay6, k0_pay7]
  exact Spec.fold_pair_one _ _ fun x : Fin 64 => BitVec.setWidth 32 (BitVec.ofBool (decide (0 < v55 (ix2 x 0))))

end Cert.KernelIdeal.Head

end
-- ==== Proof.SpecHead.lean ====
/-
  The four results as functions of the region ids and the arguments' values; both programs are read into these.
-/
module
public import proofs.«01_k».proof.Proof.Spec
@[expose] public section
noncomputable section
namespace Cert.Spec
open Idealize.ShloMosaic

variable (rid : Fin 50000 → BitVec 32) (X : Fin 50000 → Fin 512 → EReal)

/-- The pooled features from the region ids. -/
def pool (r : Fin 64) (d : Fin 512) : EReal := pooled (count rid) (total rid X) r d

variable (Uw : Fin 128 → Fin 512 → EReal) (Ub : Fin 128 → EReal) (Vw : Fin 128 → Fin 512 → EReal) (Vb w : Fin 128 → EReal)

/-- The regions' weights from the region ids. -/
def weights (r : Fin 64) : EReal :=
  weight (masked (count rid) (score (layer (pool rid X) Uw Ub) (layer (pool rid X) Vw Vb) w)) r

/-- The attention from the region ids. -/
def attention (r : Fin 64) : EReal := attn (weights rid X Uw Ub Vw Vb w) r

/-- The slide embedding from the region ids. -/
def embedding (d : Fin 512) : EReal := emb (attention rid X Uw Ub Vw Vb w) (pool rid X) d

end Cert.Spec

end
-- ==== Proof.Results.lean ====
/-
  The kernel's four result arrays, read at an index: the specification's functions of the region ids and the arguments.
-/
module
public import proofs.«01_k».proof.Proof.Fold
public import proofs.«01_k».proof.Proof.KernelHead
public import proofs.«01_k».proof.Proof.SpecHead
@[expose] public section
set_option maxRecDepth 16384
noncomputable section
namespace Cert.KernelIdeal.Results
open Idealize.ShloMosaic Idealize.ShloMosaic.TcCoe Idealize.SL Cert.KernelIdeal Cert.KernelIdeal.Gen Cert.KernelIdeal.Value
  Cert.KernelIdeal.Steps Cert.KernelIdeal.Blocks Cert.KernelIdeal.Fold

section Heads

variable (rid : Fin 50000 → BitVec 32) (X : Fin 50000 → Fin 512 → EReal)
  (CNT : Vec Ideal S64x1 .f32) (ACC : Vec Ideal S64x512 .f32)
  (x3 x5 : Vec Ideal S128x512 .f32) (x4 x6 x7 : Vec Ideal S1x128 .f32)
  (x8 : Vec Ideal S256x512 .f32) (x9 x10 : Vec Ideal S1x256 .f32) (x11 : Vec Ideal S1x1 .f32)

/-- The pooled features, from counts and sums by region id. -/
theorem pool_eq (hC : ∀ r, CNT (ix2 r 0) = Spec.count rid r) (hS : ∀ r d, ACC (ix2 r d) = Spec.total rid X r d)
    (r : Fin 64) (d : Fin 512) : k0_pay8 (F := Ideal) CNT ACC (ix2 r d) = Spec.pool rid X r d := by
  refine (Head.pay8_apply CNT ACC r d).trans ?_
  unfold Spec.pool
  rw [show (fun r => CNT (ix2 r 0)) = Spec.count rid from funext hC,
    show (fun r d => ACC (ix2 r d)) = Spec.total rid X from funext fun r => funext (hS r)]

/-- The weights, from counts and sums by region id. -/
theorem weights_eq (hC : ∀ r, CNT (ix2 r 0) = Spec.count rid r) (hS : ∀ r d, ACC (ix2 r d) = Spec.total rid X r d)
    (r : Fin 64) : k0_pay9 (F := Ideal) CNT ACC x3 x4 x5 x6 x7 (ix2 r 0)
      = Spec.weights rid X (fun a d => x3 (ix2 a d)) (fun a => x4 (ix2 0 a)) (fun a d => x5 (ix2 a d)) (fun a => x6 (ix2 0 a))
          (fun a => x7 (ix2 0 a)) r := by
  refine (Head.pay9_apply CNT ACC x3 x5 x4 x6 x7 r).trans ?_
  unfold Spec.weights
  rw [show (fun r => CNT (ix2 r 0)) = Spec.count rid from funext hC,
    show (fun r d => k0_pay8 (F := Ideal) CNT ACC (ix2 r d)) = Spec.pool rid X from
      funext fun r => funext (pool_eq rid X CNT ACC hC hS r)]

/-- The attention, from counts and sums by region id. -/
theorem attention_eq (hC : ∀ r, CNT (ix2 r 0) = Spec.count rid r) (hS : ∀ r d, ACC (ix2 r d) = Spec.total rid X r d)
    (r : Fin 64) : k0_pay3 (F := Ideal) (k0_pay9 CNT ACC x3 x4 x5 x6 x7) (k0_pay10 CNT ACC x3 x4 x5 x6 x7) (ix2 r 0)
      = Spec.attention rid X (fun a d => x3 (ix2 a d)) (fun a => x4 (ix2 0 a)) (fun a d => x5 (ix2 a d)) (fun a => x6 (ix2 0 a))
          (fun a => x7 (ix2 0 a)) r := by
  refine (Head.pay3_apply _ _ (fun q => Block.pay10_apply CNT ACC x3 x5 x4 x6 x7 q) r).trans ?_
  unfold Spec.attention
  rw [show (fun r => k0_pay9 (F := Ideal) CNT ACC x3 x4 x5 x6 x7 (ix2 r 0)) = _ from
    funext (weights_eq rid X CNT ACC x3 x5 x4 x6 x7 hC hS)]

/-- The slide embedding, from counts and sums by region id. -/
theorem embedding_eq (hC : ∀ r, CNT (ix2 r 0) = Spec.count rid r) (hS : ∀ r d, ACC (ix2 r d) = Spec.total rid X r d)
    (d : Fin 512) : k0_pay4 (F := Ideal) (k0_pay8 CNT ACC) (k0_pay9 CNT ACC x3 x4 x5 x6 x7) (k0_pay10 CNT ACC x3 x4 x5 x6 x7) (ix2 0 d)
      = Spec.embedding rid X (fun a d => x3 (ix2 a d)) (fun a => x4 (ix2 0 a)) (fun a d => x5 (ix2 a d)) (fun a => x6 (ix2 0 a))
          (fun a => x7 (ix2 0 a)) d := by
  refine (Head.pay4_apply _ _ _ d).trans ?_
  unfold Spec.embedding
  rw [show (fun r => k0_pay3 (F := Ideal) (k0_pay9 CNT ACC x3 x4 x5 x6 x7) (k0_pay10 CNT ACC x3 x4 x5 x6 x7) (ix2 r 0)) = _ from
      funext (attention_eq rid X CNT ACC x3 x5 x4 x6 x7 hC hS),
    show (fun r d => k0_pay8 (F := Ideal) CNT ACC (ix2 r d)) = Spec.pool rid X from
      funext fun r => funext (pool_eq rid X CNT ACC hC hS r)]

/-- The logit, from counts and sums by region id. -/
theorem logit_eq (hC : ∀ r, CNT (ix2 r 0) = Spec.count rid r) (hS : ∀ r d, ACC (ix2 r d) = Spec.total rid X r d) :
    k0_pay5 (F := Ideal) (k0_pay8 CNT ACC) (k0_pay9 CNT ACC x3 x4 x5 x6 x7) (k0_pay10 CNT ACC x3 x4 x5 x6 x7) x8 x9 x10 x11 (ix2 0 0)
      = Spec.logit (Spec.embedding rid X (fun a d => x3 (ix2 a d)) (fun a => x4 (ix2 0 a)) (fun a d => x5 (ix2 a d))
          (fun a => x6 (ix2 0 a)) (fun a => x7 (ix2 0 a)))
          (fun j d => x8 (ix2 j d)) (fun j => x9 (ix2 0 j)) (fun j => x10 (ix2 0 j)) (x11 (ix2 0 0)) := by
  refine (Head.pay5_apply _ _ _ x8 x9 x10 x11).trans ?_
  rw [show (fun d => k0_pay4 (F := Ideal) (k0_pay8 CNT ACC) (k0_pay9 CNT ACC x3 x4 x5 x6 x7) (k0_pay10 CNT ACC x3 x4 x5 x6 x7) (ix2 0 d)) = _ from
    funext (embedding_eq rid X CNT ACC x3 x5 x4 x6 x7 hC hS)]

/-- The number of regions, from the counts by region id. -/
theorem regions_eq (hC : ∀ r, CNT (ix2 r 0) = Spec.count rid r) :
    k0_pay6 (k0_pay7 (F := Ideal) CNT) (ix2 0 0) = Spec.regions (Spec.count rid) := by
  refine (Head.pay6_apply CNT).trans ?_
  rw [show (fun r => CNT (ix2 r 0)) = Spec.count rid from funext hC]

end Heads

/-- A vector of 128 under a leading axis of one. -/
theorem row128 (x : Vec Ideal S128 .f32) (a : Fin 128) : shapeCast S1x128 x shapeCasts_S128_S1x128 (ix2 0 a) = x (ix1 a) := by
  pointwise

/-- A vector of 256 under a leading axis of one. -/
theorem row256 (x : Vec Ideal S256 .f32) (a : Fin 256) : shapeCast S1x256 x shapeCasts_S256_S1x256 (ix2 0 a) = x (ix1 a) := by
  pointwise

/-- A vector of one under a leading axis of one. -/
theorem row1 (x : Vec Ideal S1 .f32) : shapeCast S1x1 x shapeCasts_S1_S1x1 (ix2 0 0) = x (ix1 0) := by
  pointwise

variable (m : (ℓ : Loc nD τ sig) → Buf (Elt Ideal) ℓ) (c : Dev nD)

/-- The last point is a point. -/
theorem nine : 9 < cfg0.N := lt_of_lt_of_eq (by decide) N_0.symm

/-- What the point before the last left. -/
def prev : Vec Ideal S1x1 .f32 × Vec Ideal S1x512 .f32 × Vec Ideal S64x1 .f32 × Vec Ideal S1x1 .i32 × Vec Ideal S64x512 .f32 × Vec Ideal S64x128 .f32 × Vec Ideal S2 .f32 :=
  outsAt0 m c 8 (Nat.lt_of_succ_lt nine)

/-- It satisfies the invariant. -/
theorem prev_inv : Inv m c 8 (prev m c) := inv_all m c 8 _ (by decide)

/-- The sweep's last value is the last point's step over what the point before left. -/
theorem sweep_last : (Pipeline.accAt (fun n h => stAt0 m c n h junk0) (stAt0 m c) 0 9 (lt_of_lt_of_eq (by decide) N_0.symm))
    = stAt0 m c 9 nine (prev m c) :=
  (outsAt0_sweep m c 9 nine).symm.trans (outsAt0_succ m c 8 nine)

/-- The counts the last point reads. -/
def counts : Vec Ideal S64x1 .f32 :=
  cntStep (F := Ideal) (iblk m c 1 ⟨9, nine⟩) (at0 (prev m c).2.2.2.2.2.2) (at1 (prev m c).2.2.2.2.2.2) (col (prev m c).2.2.2.2.2.1)

/-- The sums the last point reads. -/
def sums : Vec Ideal S64x512 .f32 :=
  accStep (F := Ideal) (iblk m c 1 ⟨9, nine⟩) (iblk m c 2 ⟨9, nine⟩) (at0 (prev m c).2.2.2.2.2.2) (at1 (prev m c).2.2.2.2.2.2) (prev m c).2.2.2.2.1

/-- They are the counts by region id. -/
theorem counts_apply (r : Fin 64) : counts m c (ix2 r 0) = Spec.count (rid m c) r :=
  last_cnt m c nine (prev m c) (prev_inv m c) r

/-- They are the sums by region id. -/
theorem sums_apply (r : Fin 64) (d : Fin 512) : sums m c (ix2 r d) = Spec.total (rid m c) (feat m c) r d :=
  last_acc m c nine (prev m c) (prev_inv m c) r d

/-- Window 3 holds argument 2. -/
theorem blk3 (t : Fin cfg0.N) : (iblk m c 3 t : Vec Ideal S128x512 .f32) = m ((c : Thread nD τ).loc main_arg2) :=
  (whole_3 m c t).trans (V_main_arg2 m c)

/-- Window 5 holds argument 4. -/
theorem blk5 (t : Fin cfg0.N) : (iblk m c 5 t : Vec Ideal S128x512 .f32) = m ((c : Thread nD τ).loc main_arg4) :=
  (whole_5 m c t).trans (V_main_arg4 m c)

/-- Window 7 holds argument 6. -/
theorem blk7 (t : Fin cfg0.N) : (iblk m c 7 t : Vec Ideal S1x128 .f32) = m ((c : Thread nD τ).loc main_arg6) :=
  (whole_7 m c t).trans (V_main_arg6 m c)

/-- Window 8 holds argument 7. -/
theorem blk8 (t : Fin cfg0.N) : (iblk m c 8 t : Vec Ideal S256x512 .f32) = m ((c : Thread nD τ).loc main_arg7) :=
  (whole_8 m c t).trans (V_main_arg7 m c)

/-- Window 10 holds argument 9. -/
theorem blk10 (t : Fin cfg0.N) : (iblk m c 10 t : Vec Ideal S1x256 .f32) = m ((c : Thread nD τ).loc main_arg9) :=
  (whole_10 m c t).trans (V_main_arg9 m c)

/-- Window 4 holds argument 3 as a row. -/
theorem blk4 (t : Fin cfg0.N) (a : Fin 128) : (iblk m c 4 t : Vec Ideal S1x128 .f32) (ix2 0 a) = m ((c : Thread nD τ).loc main_arg3) (ix1 a) :=
  (congrFun ((whole_4 m c t).trans (V_v3 m c)) _).trans (row128 _ a)

/-- Window 6 holds argument 5 as a row. -/
theorem blk6 (t : Fin cfg0.N) (a : Fin 128) : (iblk m c 6 t : Vec Ideal S1x128 .f32) (ix2 0 a) = m ((c : Thread nD τ).loc main_arg5) (ix1 a) :=
  (congrFun ((whole_6 m c t).trans (V_v4 m c)) _).trans (row128 _ a)

/-- Window 9 holds argument 8 as a row. -/
theorem blk9 (t : Fin cfg0.N) (a : Fin 256) : (iblk m c 9 t : Vec Ideal S1x256 .f32) (ix2 0 a) = m ((c : Thread nD τ).loc main_arg8) (ix1 a) :=
  (congrFun ((whole_9 m c t).trans (V_v5 m c)) _).trans (row256 _ a)

/-- Window 11 holds argument 10 as a row. -/
theorem blk11 (t : Fin cfg0.N)  : (iblk m c 11 t : Vec Ideal S1x1 .f32) (ix2 0 0) = m ((c : Thread nD τ).loc main_arg10) (ix1 0) :=
  (congrFun ((whole_11 m c t).trans (V_v6 m c)) _).trans (row1 _ )

/-- The attention the kernel leaves. -/
theorem attn_apply (r : Fin 64) : G14 m c (ix2 r 0) = Spec.attention (rid m c) (feat m c) (fun a d => m ((c : Thread nD τ).loc main_arg2) (ix2 a d)) (fun a => m ((c : Thread nD τ).loc main_arg3) (ix1 a)) (fun a d => m ((c : Thread nD τ).loc main_arg4) (ix2 a d)) (fun a => m ((c : Thread nD τ).loc main_arg5) (ix1 a)) (fun a => m ((c : Thread nD τ).loc main_arg6) (ix2 0 a)) r := by
  refine (congrFun (G14_last m c) _).trans ?_
  rw [sweep_last]
  refine (congrFun (Points.last_14 m c ⟨9, nine⟩ (prev m c) (by show ¬9 % 10 = 0; decide) (by show 9 % 10 = 9; decide)) _).trans ?_
  refine (attention_eq (rid m c) (feat m c) (counts m c) (sums m c) (iblk m c 3 ⟨9, nine⟩) (iblk m c 5 ⟨9, nine⟩) (iblk m c 4 ⟨9, nine⟩) (iblk m c 6 ⟨9, nine⟩) (iblk m c 7 ⟨9, nine⟩) (counts_apply m c) (sums_apply m c) r).trans ?_
  simp only [blk3, blk4, blk5, blk6, blk7]

/-- The slide embedding the kernel leaves. -/
theorem emb_apply (d : Fin 512) : G13 m c (ix2 0 d) = Spec.embedding (rid m c) (feat m c) (fun a d => m ((c : Thread nD τ).loc main_arg2) (ix2 a d)) (fun a => m ((c : Thread nD τ).loc main_arg3) (ix1 a)) (fun a d => m ((c : Thread nD τ).loc main_arg4) (ix2 a d)) (fun a => m ((c : Thread nD τ).loc main_arg5) (ix1 a)) (fun a => m ((c : Thread nD τ).loc main_arg6) (ix2 0 a)) d := by
  refine (congrFun (G13_last m c) _).trans ?_
  rw [sweep_last]
  refine (congrFun (Points.last_13 m c ⟨9, nine⟩ (prev m c) (by show ¬9 % 10 = 0; decide) (by show 9 % 10 = 9; decide)) _).trans ?_
  refine (embedding_eq (rid m c) (feat m c) (counts m c) (sums m c) (iblk m c 3 ⟨9, nine⟩) (iblk m c 5 ⟨9, nine⟩) (iblk m c 4 ⟨9, nine⟩) (iblk m c 6 ⟨9, nine⟩) (iblk m c 7 ⟨9, nine⟩) (counts_apply m c) (sums_apply m c) d).trans ?_
  simp only [blk3, blk4, blk5, blk6, blk7]

/-- The logit the kernel leaves. -/
theorem logit_apply  : G12 m c (ix2 0 0) = Spec.logit (Spec.embedding (rid m c) (feat m c) (fun a d => m ((c : Thread nD τ).loc main_arg2) (ix2 a d)) (fun a => m ((c : Thread nD τ).loc main_arg3) (ix1 a)) (fun a d => m ((c : Thread nD τ).loc main_arg4) (ix2 a d)) (fun a => m ((c : Thread nD τ).loc main_arg5) (ix1 a)) (fun a => m ((c : Thread nD τ).loc main_arg6) (ix2 0 a))) (fun j d => m ((c : Thread nD τ).loc main_arg7) (ix2 j d)) (fun j => m ((c : Thread nD τ).loc main_arg8) (ix1 j)) (fun j => m ((c : Thread nD τ).loc main_arg9) (ix2 0 j)) (m ((c : Thread nD τ).loc main_arg10) (ix1 0)) := by
  refine (congrFun (G12_last m c) _).trans ?_
  rw [sweep_last]
  refine (congrFun (Points.last_12 m c ⟨9, nine⟩ (prev m c) (by show ¬9 % 10 = 0; decide) (by show 9 % 10 = 9; decide)) _).trans ?_
  refine (logit_eq (rid m c) (feat m c) (counts m c) (sums m c) (iblk m c 3 ⟨9, nine⟩) (iblk m c 5 ⟨9, nine⟩) (iblk m c 4 ⟨9, nine⟩) (iblk m c 6 ⟨9, nine⟩) (iblk m c 7 ⟨9, nine⟩) (iblk m c 8 ⟨9, nine⟩) (iblk m c 9 ⟨9, nine⟩) (iblk m c 10 ⟨9, nine⟩) (iblk m c 11 ⟨9, nine⟩) (counts_apply m c) (sums_apply m c)).trans ?_
  simp only [blk3, blk4, blk5, blk6, blk7, blk8, blk9, blk10, blk11]

/-- The number of regions the kernel leaves. -/
theorem regions_apply  : G15 m c (ix2 0 0) = Spec.regions (Spec.count (rid m c)) := by
  refine (congrFun (G15_last m c) _).trans ?_
  rw [sweep_last]
  refine (congrFun (Points.last_15 m c ⟨9, nine⟩ (prev m c) (by show ¬9 % 10 = 0; decide) (by show 9 % 10 = 9; decide)) _).trans ?_
  refine (regions_eq (rid m c) (counts m c) (counts_apply m c)).trans ?_
  rfl

end Cert.KernelIdeal.Results

end
-- ==== Proof.RefHead.lean ====
/-
  What the reference computes of its scattered sums and counts, read at an index: each stage of its head is the
  function of the same name in Proof/Spec.lean.
-/
module

public import proofs.«01_k».proof.Proof.Gen.ReferenceIdeal.Read
public import proofs.«01_k».proof.Proof.Spec

@[expose] public section

set_option maxRecDepth 16384

noncomputable section

namespace Cert.ReferenceIdeal.Head

open Idealize.ShloMosaic Cert.ReferenceIdeal Cert.ReferenceIdeal.Gen Cert.ReferenceIdeal.Read

variable (x0 : FVec Ideal S50000x512 .f32) (x1 : FVec Ideal S50000x2 .f32) (x2 : FVec Ideal S128x512 .f32)
  (x3 : FVec Ideal S128 .f32) (x4 : FVec Ideal S128x512 .f32) (x5 : FVec Ideal S128 .f32) (x6 : FVec Ideal S1x128 .f32)
  (x7 : FVec Ideal S256x512 .f32) (x8 : FVec Ideal S256 .f32) (x9 : FVec Ideal S1x256 .f32) (x10 : FVec Ideal S1 .f32)

/-- The quotient of sums and counts is the pooled features (of any operands). -/
theorem v33_of (y0 : FVec Ideal S64 .f32) (y1 : FVec Ideal S64x512 .f32) (r : Fin 64) (d : Fin 512) :
    (Host.divf y1 (broadcastInDim S64x512 ![0, 1] bcast_S64x1_S64x512_0_1 (broadcastInDim S64x1 ![0] bcast_S64_S64x1_0 (maximumf (broadcastInDim S64 ![] bcast_S_S64 ((constant (F := Ideal) S_ .f32 0x3F800000#32))) y0)))) (ix2 r d)
      = Spec.pooled (fun r => y0 (ix1 r)) (fun r d => y1 (ix2 r d)) r d := by
  unfold Spec.pooled
  pointwise
  rw [max_comm]

/-- The quotient of sums and counts is the pooled features. -/
theorem v33_apply (r : Fin 64) (d : Fin 512) :
    val_main_v33 (F := Ideal) x0 x1 (ix2 r d)
      = Spec.pooled (fun r => val_main_v27 (F := Ideal) x1 (ix1 r)) (fun r d => val_main_v23 (F := Ideal) x0 x1 (ix2 r d)) r d := by
  exact v33_of _ _ r d

/-- A linear layer of the pooled features (of any operands). -/
theorem v38_of (x2 : FVec Ideal S128x512 .f32) (x3 : FVec Ideal S128 .f32) (y0 : FVec Ideal S64x512 .f32) (r : Fin 64) (a : Fin 128) :
    (addf (Host.dotGeneral dot_S64x512_S512x128_S64x128_1_0_0_1_n_n none y0 (transpose S512x128 [1, 0] (x2) transposes_S128x512_S512x128_1_0)) (broadcastInDim S64x128 ![0, 1] bcast_S1x128_S64x128_0_1 (broadcastInDim S1x128 ![1] bcast_S128_S1x128_1 (x3)))) (ix2 r a)
      = Spec.layer (fun r d => y0 (ix2 r d)) (fun a d => x2 (ix2 a d)) (fun a => x3 (ix1 a)) r a := by
  unfold Spec.layer
  pointwise [dot_S64x512_S512x128_S64x128_1_0_0_1_n_n]

/-- A linear layer of the pooled features. -/
theorem v38_apply (r : Fin 64) (a : Fin 128) :
    val_main_v38 (F := Ideal) x0 x1 x2 x3 (ix2 r a)
      = Spec.layer (fun r d => val_main_v33 (F := Ideal) x0 x1 (ix2 r d)) (fun a d => x2 (ix2 a d)) (fun a => x3 (ix1 a)) r a := by
  exact v38_of _ _ _ r a

/-- A linear layer of the pooled features (of any operands). -/
theorem v44_of (x4 : FVec Ideal S128x512 .f32) (x5 : FVec Ideal S128 .f32) (y0 : FVec Ideal S64x512 .f32) (r : Fin 64) (a : Fin 128) :
    (addf (Host.dotGeneral dot_S64x512_S512x128_S64x128_1_0_0_1_n_n none y0 (transpose S512x128 [1, 0] (x4) transposes_S128x512_S512x128_1_0)) (broadcastInDim S64x128 ![0, 1] bcast_S1x128_S64x128_0_1 (broadcastInDim S1x128 ![1] bcast_S128_S1x128_1 (x5)))) (ix2 r a)
      = Spec.layer (fun r d => y0 (ix2 r d)) (fun a d => x4 (ix2 a d)) (fun a => x5 (ix1 a)) r a := by
  unfold Spec.layer
  pointwise [dot_S64x512_S512x128_S64x128_1_0_0_1_n_n]

/-- A linear layer of the pooled features. -/
theorem v44_apply (r : Fin 64) (a : Fin 128) :
    val_main_v44 (F := Ideal) x0 x1 x4 x5 (ix2 r a)
      = Spec.layer (fun r d => val_main_v33 (F := Ideal) x0 x1 (ix2 r d)) (fun a d => x4 (ix2 a d)) (fun a => x5 (ix1 a)) r a := by
  exact v44_of _ _ _ r a

/-- The scores of the regions (of any operands). -/
theorem v53_of (x6 : FVec Ideal S1x128 .f32) (y0 : FVec Ideal S64x128 .f32) (y1 : FVec Ideal S64x128 .f32) (r : Fin 64) :
    (Host.dotGeneral dot_S64x128_S128x1_S64x1_1_0_0_1_n_n none (mulf (Host.tanh y0) (Host.divf (broadcastInDim S64x128 ![] bcast_S_S64x128 (constant (F := Ideal) S_ .f32 0x3F800000#32)) (addf (broadcastInDim S64x128 ![] bcast_S_S64x128 (constant (F := Ideal) S_ .f32 0x3F800000#32)) (Host.exp (Host.negf y1))))) (transpose S128x1 [1, 0] (x6) transposes_S1x128_S128x1_1_0)) (ix2 r 0)
      = Spec.score (fun r a => y0 (ix2 r a)) (fun r a => y1 (ix2 r a)) (fun a => x6 (ix2 0 a)) r := by
  unfold Spec.score Ideal.logistic
  pointwise [dot_S64x128_S128x1_S64x1_1_0_0_1_n_n]

/-- The scores of the regions. -/
theorem v53_apply (r : Fin 64) :
    val_main_v53 (F := Ideal) x0 x1 x2 x3 x4 x5 x6 (ix2 r 0)
      = Spec.score (fun r a => val_main_v38 (F := Ideal) x0 x1 x2 x3 (ix2 r a)) (fun r a => val_main_v44 (F := Ideal) x0 x1 x4 x5 (ix2 r a)) (fun a => x6 (ix2 0 a)) r := by
  exact v53_of _ _ _ r

/-- The test for a region that is not empty (of any operands). -/
theorem v29_of (y0 : FVec Ideal S64 .f32) (r : Fin 64) :
    (cmpf .ogt y0 (broadcastInDim S64 ![] bcast_S_S64 (constant (F := Ideal) S_ .f32 0x00000000#32))) (ix1 r)
      = Ideal.cmp .ogt (y0 (ix1 r)) 0 := by
  pointwise

/-- The test for a region that is not empty. -/
theorem v29_apply (r : Fin 64) :
    val_main_v29 (F := Ideal) x1 (ix1 r)
      = Ideal.cmp .ogt (val_main_v27 (F := Ideal) x1 (ix1 r)) 0 := by
  exact v29_of _ r

/-- The masked scores (of any operands). -/
theorem v55_of (y0 : FVec Ideal S64 .f32) (y1 : FVec Ideal S64x1 .f32) (r : Fin 64) :
    (select (broadcastInDim S64x1 ![0] bcast_S64_S64x1_0 (cmpf .ogt y0 (broadcastInDim S64 ![] bcast_S_S64 (constant (F := Ideal) S_ .f32 0x00000000#32)))) y1 (broadcastInDim S64x1 ![] bcast_S_S64x1 ((constant (F := Ideal) S_ .f32 0xFF800000#32)))) (ix2 r 0)
      = Spec.masked (fun r => y0 (ix1 r)) (fun r => y1 (ix2 r 0)) r := by
  unfold Spec.masked
  pointwise
  rw [Spec.ofBits_neg_inf]

/-- The masked scores. -/
theorem v55_apply (r : Fin 64) :
    val_main_v55 (F := Ideal) x0 x1 x2 x3 x4 x5 x6 (ix2 r 0)
      = Spec.masked (fun r => val_main_v27 (F := Ideal) x1 (ix1 r)) (fun r => val_main_v53 (F := Ideal) x0 x1 x2 x3 x4 x5 x6 (ix2 r 0)) r := by
  exact v55_of _ _ r

/-- The weights of the regions (of any operands). -/
theorem v62_of (y0 : FVec Ideal S64x1 .f32) (r : Fin 64) :
    (Host.exp (subf y0 (broadcastInDim S64x1 ![0, 1] bcast_S1x1_S64x1_0_1 (broadcastInDim S1x1 ![1] bcast_S1_S1x1_1 (maximumf (broadcastInDim S1 ![] bcast_S_S1 (constant (F := Ideal) S_ .f32 0xFF800000#32)) (Host.reduce FloatOps.maximumf y0 (constant (F := Ideal) S_ .f32 0xFF800000#32) reducesTo_S64x1_S1_d0 h_S_)))))) (ix2 r 0)
      = Spec.weight (fun r => y0 (ix2 r 0)) r := by
  unfold Spec.weight
  pointwise
  rw [Spec.ofBits_neg_inf]
  rw [max_eq_right (bot_le (a := Finset.fold max ⊥ (fun x : Fin 64 => y0 (ix2 x 0)) Finset.univ))]

/-- The weights of the regions. -/
theorem v62_apply (r : Fin 64) :
    val_main_v62 (F := Ideal) x0 x1 x2 x3 x4 x5 x6 (ix2 r 0)
      = Spec.weight (fun r => val_main_v55 (F := Ideal) x0 x1 x2 x3 x4 x5 x6 (ix2 r 0)) r := by
  exact v62_of _ r

/-- The attention of the regions (of any operands). -/
theorem v66_of (y0 : FVec Ideal S64x1 .f32) (r : Fin 64) :
    (Host.divf y0 (broadcastInDim S64x1 ![0, 1] bcast_S1x1_S64x1_0_1 (broadcastInDim S1x1 ![1] bcast_S1_S1x1_1 (Host.reduceAdd y0 (constant (F := Ideal) S_ .f32 0x00000000#32) reducesTo_S64x1_S1_d0 h_S_)))) (ix2 r 0)
      = Spec.attn (fun r => y0 (ix2 r 0)) r := by
  unfold Spec.attn
  pointwise

/-- The attention of the regions. -/
theorem v66_apply (r : Fin 64) :
    val_main_v66 (F := Ideal) x0 x1 x2 x3 x4 x5 x6 (ix2 r 0)
      = Spec.attn (fun r => val_main_v62 (F := Ideal) x0 x1 x2 x3 x4 x5 x6 (ix2 r 0)) r := by
  exact v66_of _ r

/-- The slide embedding (of any operands). -/
theorem v69_of (y0 : FVec Ideal S64x1 .f32) (y1 : FVec Ideal S64x512 .f32) (d : Fin 512) :
    (Host.reduceAdd (mulf (broadcastInDim S64x512 ![0, 1] bcast_S64x1_S64x512_0_1 y0) y1) (constant (F := Ideal) S_ .f32 0x00000000#32) reducesTo_S64x512_S512_d0 h_S_) (ix1 d)
      = Spec.emb (fun r => y0 (ix2 r 0)) (fun r d => y1 (ix2 r d)) d := by
  unfold Spec.emb
  pointwise

/-- The slide embedding. -/
theorem v69_apply (d : Fin 512) :
    val_main_v69 (F := Ideal) x0 x1 x2 x3 x4 x5 x6 (ix1 d)
      = Spec.emb (fun r => val_main_v66 (F := Ideal) x0 x1 x2 x3 x4 x5 x6 (ix2 r 0)) (fun r d => val_main_v33 (F := Ideal) x0 x1 (ix2 r d)) d := by
  exact v69_of _ _ d

/-- The slide embedding as a row (of any operands). -/
theorem v81_of (y0 : FVec Ideal S512 .f32) (d : Fin 512) :
    (shapeCast S1x512 y0 shapeCasts_S512_S1x512) (ix2 0 d)
      = y0 (ix1 d) := by
  pointwise

/-- The slide embedding as a row. -/
theorem v81_apply (d : Fin 512) :
    val_main_v81 (F := Ideal) x0 x1 x2 x3 x4 x5 x6 (ix2 0 d)
      = val_main_v69 (F := Ideal) x0 x1 x2 x3 x4 x5 x6 (ix1 d) := by
  exact v81_of _ d

/-- The logit (of any operands). -/
theorem v80_of (x7 : FVec Ideal S256x512 .f32) (x8 : FVec Ideal S256 .f32) (x9 : FVec Ideal S1x256 .f32) (x10 : FVec Ideal S1 .f32) (y0 : FVec Ideal S512 .f32)  :
    (shapeCast S1x1 (shapeCast S_ (addf (Host.dotGeneral dot_S256_S256x1_S1_0_0_n_1_n_n none (maximumf (addf (Host.dotGeneral dot_S512_S512x256_S256_0_0_n_1_n_n none y0 (transpose S512x256 [1, 0] (x7) transposes_S256x512_S512x256_1_0)) (x8)) (broadcastInDim S256 ![] bcast_S_S256 (constant (F := Ideal) S_ .f32 0x00000000#32))) (transpose S256x1 [1, 0] (x9) transposes_S1x256_S256x1_1_0)) (x10)) shapeCasts_S1_S_) shapeCasts_S_S1x1) (ix2 0 0)
      = Spec.logit (fun d => y0 (ix1 d)) (fun j d => x7 (ix2 j d)) (fun j => x8 (ix1 j)) (fun j => x9 (ix2 0 j)) (x10 (ix1 0)) := by
  unfold Spec.logit
  pointwise [dot_S512_S512x256_S256_0_0_n_1_n_n, dot_S256_S256x1_S1_0_0_n_1_n_n]

/-- The logit. -/
theorem v80_apply  :
    val_main_v80 (F := Ideal) x0 x1 x2 x3 x4 x5 x6 x7 x8 x9 x10 (ix2 0 0)
      = Spec.logit (fun d => val_main_v69 (F := Ideal) x0 x1 x2 x3 x4 x5 x6 (ix1 d)) (fun j d => x7 (ix2 j d)) (fun j => x8 (ix1 j)) (fun j => x9 (ix2 0 j)) (x10 (ix1 0)) := by
  exact v80_of _ _ _ _ _

/-- The number of regions that are not empty (of any operands). -/
theorem v82_of (y0 : FVec Ideal S64 .f32)  :
    (shapeCast S1x1 (Host.reduce IntOp.addi (extui 32 (cmpf .ogt y0 (broadcastInDim S64 ![] bcast_S_S64 (constant (F := Ideal) S_ .f32 0x00000000#32))) natLt_1_32) (constantI S_ 32 0#32) reducesTo_S64_S_d0 h_S_) shapeCasts_S_S1x1) (ix2 0 0)
      = Spec.regions (fun r => y0 (ix1 r)) := by
  unfold Spec.regions
  pointwise

/-- The number of regions that are not empty. -/
theorem v82_apply  :
    val_main_v82 (F := Ideal) x1 (ix2 0 0)
      = Spec.regions (fun r => val_main_v27 (F := Ideal) x1 (ix1 r)) := by
  exact v82_of _

end Cert.ReferenceIdeal.Head

end
-- ==== Proof.RefScatter.lean ====
/-
  The reference's two scatters read at an element: the scattered sums are `Spec.total` of the region ids and the
  features, the scattered counts `Spec.count` of the region ids.
-/
module

public import proofs.«01_k».proof.Proof.Gen.ReferenceIdeal.Read
public import proofs.«01_k».proof.Proof.Spec
public import Idealize.ShloMosaic.Lib.Routing.OpsPair

@[expose] public section

set_option maxRecDepth 16384

noncomputable section

namespace Cert.ReferenceIdeal.Scatter

open Idealize.ShloMosaic Cert.ReferenceIdeal Cert.ReferenceIdeal.Gen Cert.ReferenceIdeal.Read

/-- A word read signed is a small natural number exactly when it is that number's word. -/
theorem toInt_eq_iff (w : BitVec 32) (r : Fin 64) : w.toInt = (r.val : Int) ↔ w = BitVec.ofNat 32 r.val := by
  have hr : (BitVec.ofNat 32 r.val).toInt = (r.val : Int) := by
    have hn : (BitVec.ofNat 32 r.val).toNat = r.val := by
      rw [BitVec.toNat_ofNat]
      omega
    rw [BitVec.toInt_eq_toNat_cond, hn]
    split <;> omega
  constructor
  · intro h
    exact BitVec.eq_of_toInt_eq (h.trans hr.symm)
  · rintro rfl
    exact hr

/-- The count scatter: update `n` lands at `r` exactly when patch `n` has region id `r`. -/
theorem lands_count (idx : IVec S50000x1 32) (n : Fin 50000) (r : Fin 64) :
    scatter_S64_S50000x1_S50000_n_0_0_1.resultIdx? (ix1 n) idx = some (ix1 r) ↔ idx (ix2 n 0) = BitVec.ofNat 32 r.val := by
  have hw : scatter_S64_S50000x1_S50000_n_0_0_1.window (ix1 n) 0 = 0 := rfl
  have hs : scatter_S64_S50000x1_S50000_n_0_0_1.start (ix1 n) idx 0 = (idx (ix2 n 0)).toInt := by
    show (idx _).toInt = _
    congr 2
    funext a
    match a with
    | ⟨0, _⟩ => rfl
    | ⟨1, _⟩ => rfl
  rw [Routing.resultIdx?_eq_some, ← toInt_eq_iff]
  constructor
  · intro h
    have h0 := h 0
    rw [hw, hs] at h0
    simpa using h0
  · intro h a
    match a with
    | ⟨0, _⟩ =>
      show scatter_S64_S50000x1_S50000_n_0_0_1.start (ix1 n) idx 0 + ((scatter_S64_S50000x1_S50000_n_0_0_1.window (ix1 n) 0 : Nat) : Int) = (r.val : Int)
      rw [hw, hs, h]
      simp

/-- The sum scatter: element `(n, e)` lands at `(r, d)` exactly when patch `n` has region id `r` and `e` is `d`. -/
theorem lands_total (idx : IVec S50000x1 32) (n : Fin 50000) (e : Fin 512) (r : Fin 64) (d : Fin 512) :
    scatter_S64x512_S50000x1_S50000x512_1_0_0_1.resultIdx? (ix2 n e) idx = some (ix2 r d)
      ↔ idx (ix2 n 0) = BitVec.ofNat 32 r.val ∧ e = d := by
  have hw0 : scatter_S64x512_S50000x1_S50000x512_1_0_0_1.window (ix2 n e) 0 = 0 := rfl
  have hw1 : scatter_S64x512_S50000x1_S50000x512_1_0_0_1.window (ix2 n e) 1 = e.val := rfl
  have hs1 : scatter_S64x512_S50000x1_S50000x512_1_0_0_1.start (ix2 n e) idx 1 = 0 := rfl
  have hs0 : scatter_S64x512_S50000x1_S50000x512_1_0_0_1.start (ix2 n e) idx 0 = (idx (ix2 n 0)).toInt := by
    show (idx _).toInt = _
    congr 2
    funext a
    match a with
    | ⟨0, _⟩ => rfl
    | ⟨1, _⟩ => rfl
  rw [Routing.resultIdx?_eq_some, ← toInt_eq_iff]
  constructor
  · intro h
    have h0 := h 0
    have h1 := h 1
    rw [hw0, hs0] at h0
    rw [hw1, hs1] at h1
    refine ⟨by simpa using h0, Fin.ext ?_⟩
    have h2 : (0 : Int) + (e.val : Int) = (d.val : Int) := h1
    omega
  · rintro ⟨h, rfl⟩ a
    match a with
    | ⟨0, _⟩ =>
      show scatter_S64x512_S50000x1_S50000x512_1_0_0_1.start (ix2 n e) idx 0 + ((scatter_S64x512_S50000x1_S50000x512_1_0_0_1.window (ix2 n e) 0 : Nat) : Int) = (r.val : Int)
      rw [hw0, hs0, h]
      simp
    | ⟨1, _⟩ =>
      show scatter_S64x512_S50000x1_S50000x512_1_0_0_1.start (ix2 n e) idx 1 + ((scatter_S64x512_S50000x1_S50000x512_1_0_0_1.window (ix2 n e) 1 : Nat) : Int) = (e.val : Int)
      rw [hw1, hs1]
      simp

variable (x0 : FVec Ideal S50000x512 .f32) (x1 : FVec Ideal S50000x2 .f32)

/-- The scattered counts are the counts of the region ids (of any operands). -/
theorem v27_of (y0 : IVec S50000 32) (r : Fin 64) :
    (Host.scatterAdd scatter_S64_S50000x1_S50000_n_0_0_1 (broadcastInDim S64 ![] bcast_S_S64 (constant (F := Ideal) S_ .f32 0x00000000#32)) (broadcastInDim S50000x1 ![0] bcast_S50000_S50000x1_0 y0) (broadcastInDim S50000 ![] bcast_S_S50000 (constant (F := Ideal) S_ .f32 0x3F800000#32))) (ix1 r)
      = Spec.count (fun n => y0 (ix1 n)) r := by
  show Ideal.hostScatterAdd _ _ _ _ _ = _
  unfold Ideal.hostScatterAdd Spec.count
  rw [Finset.sum_filter, sum_idx1]
  have hz : (broadcastInDim S64 ![] bcast_S_S64 (constant (F := Ideal) S_ .f32 0x00000000#32)) (ix1 r) = 0 := by pointwise
  rw [hz, zero_add]
  refine Finset.sum_congr rfl fun n _ => ?_
  have hi : (broadcastInDim S50000x1 ![0] bcast_S50000_S50000x1_0 y0) (ix2 n 0) = y0 (ix1 n) := by pointwise
  have ho : (broadcastInDim S50000 ![] bcast_S_S50000 (constant (F := Ideal) S_ .f32 0x3F800000#32)) (ix1 n) = 1 := by pointwise
  simp only [lands_count, hi, ho]

/-- The scattered counts are the counts of the region ids. -/
theorem v27_apply (r : Fin 64) :
    val_main_v27 (F := Ideal) x1 (ix1 r)
      = Spec.count (fun n => val_main_v20 (F := Ideal) x1 (ix1 n)) r := by
  exact v27_of _ r

/-- The scattered sums are the sums of the features by region id (of any operands). -/
theorem v23_of (x0 : FVec Ideal S50000x512 .f32) (y0 : IVec S50000 32) (r : Fin 64) (d : Fin 512) :
    (Host.scatterAdd scatter_S64x512_S50000x1_S50000x512_1_0_0_1 (broadcastInDim S64x512 ![] bcast_S_S64x512 (constant (F := Ideal) S_ .f32 0x00000000#32)) (broadcastInDim S50000x1 ![0] bcast_S50000_S50000x1_0 y0) (x0)) (ix2 r d)
      = Spec.total (fun n => y0 (ix1 n)) (fun n d => x0 (ix2 n d)) r d := by
  show Ideal.hostScatterAdd _ _ _ _ _ = _
  unfold Ideal.hostScatterAdd Spec.total
  rw [Finset.sum_filter, sum_idx2]
  have hz : (broadcastInDim S64x512 ![] bcast_S_S64x512 (constant (F := Ideal) S_ .f32 0x00000000#32)) (ix2 r d) = 0 := by pointwise
  rw [hz, zero_add]
  refine Finset.sum_congr rfl fun n _ => ?_
  have hi : (broadcastInDim S50000x1 ![0] bcast_S50000_S50000x1_0 y0) (ix2 n 0) = y0 (ix1 n) := by pointwise
  simp only [lands_total, hi]
  by_cases h : y0 (ix1 n) = BitVec.ofNat 32 r.val
  · simp [h]
  · simp [h]

/-- The scattered sums are the sums of the features by region id. -/
theorem v23_apply (r : Fin 64) (d : Fin 512) :
    val_main_v23 (F := Ideal) x0 x1 (ix2 r d)
      = Spec.total (fun n => val_main_v20 (F := Ideal) x1 (ix1 n)) (fun n d => x0 (ix2 n d)) r d := by
  exact v23_of _ _ r d

end Cert.ReferenceIdeal.Scatter

end
-- ==== Proof.RefRegion.lean ====
/-
  The region ids as the reference computes them, read at a patch.
-/
module

public import proofs.«01_k».proof.Proof.Gen.ReferenceIdeal.Read
public import proofs.«01_k».proof.Proof.Spec
public import proofs.«01_k».proof.Proof.SpecRegion

@[expose] public section

set_option maxRecDepth 16384

noncomputable section

namespace Cert.ReferenceIdeal.Region

open Idealize.ShloMosaic Cert.ReferenceIdeal Cert.ReferenceIdeal.Gen Cert.ReferenceIdeal.Read

variable (x1 : FVec Ideal S50000x2 .f32)

/-- The least coordinate along an axis (of any operands). -/
theorem v0_of (x1 : FVec Ideal S50000x2 .f32)  (a : Fin 2) :
    (Host.reduce FloatOps.minimumf (x1) (constant (F := Ideal) S_ .f32 0x7F800000#32) reducesTo_S50000x2_S2_d0 h_S_) (ix1 a)
      = Spec.least (fun n => x1 (ix2 n a)) := by
  unfold Spec.least
  rw [← Spec.ofBits_pos_inf]
  pointwise

/-- The least coordinate along an axis. -/
theorem v0_apply (a : Fin 2) :
    val_main_v0 (F := Ideal) x1 (ix1 a)
      = Spec.least (fun n => x1 (ix2 n a)) := by
  exact v0_of _ a

/-- The span along an axis, at least one (of any operands). -/
theorem v3_of (x1 : FVec Ideal S50000x2 .f32) (y0 : FVec Ideal S2 .f32) (a : Fin 2) :
    (maximumf (broadcastInDim S2 ![] bcast_S_S2 ((constant (F := Ideal) S_ .f32 0x3F800000#32))) (subf (Host.reduce FloatOps.maximumf (x1) (constant (F := Ideal) S_ .f32 0xFF800000#32) reducesTo_S50000x2_S2_d0 h_S_) y0)) (ix1 a)
      = max 1 (Spec.greatest (fun n => x1 (ix2 n a)) - y0 (ix1 a)) := by
  unfold Spec.greatest
  rw [← Spec.ofBits_neg_inf]
  pointwise

/-- The span along an axis, at least one. -/
theorem v3_apply (a : Fin 2) :
    val_main_v3 (F := Ideal) x1 (ix1 a)
      = max 1 (Spec.greatest (fun n => x1 (ix2 n a)) - val_main_v0 (F := Ideal) x1 (ix1 a)) := by
  exact v3_of _ _ a

/-- The region id of a patch (of any operands). -/
theorem v20_of (x1 : FVec Ideal S50000x2 .f32) (y0 : FVec Ideal S2 .f32) (y1 : FVec Ideal S2 .f32) (n : Fin 50000) :
    (addi (muli (shapeCast S50000 (extractStridedSlice S50000x1 ![0, 1] (minsi (broadcastInDim S50000x2 ![] bcast_S_S50000x2 ((constantI S_ 32 7#32))) (maxsi (broadcastInDim S50000x2 ![] bcast_S_S50000x2 ((constantI S_ 32 0#32))) (fptosi 32 (mulf (Host.divf (subf (x1) (broadcastInDim S50000x2 ![0, 1] bcast_S1x2_S50000x2_0_1 (broadcastInDim S1x2 ![1] bcast_S2_S1x2_1 y0))) (broadcastInDim S50000x2 ![0, 1] bcast_S1x2_S50000x2_0_1 (broadcastInDim S1x2 ![1] bcast_S2_S1x2_1 y1))) (broadcastInDim S50000x2 ![] bcast_S_S50000x2 (constant (F := Ideal) S_ .f32 0x41000000#32)))))) slices_S50000x2_S50000x1_0_1) shapeCasts_S50000x1_S50000) (broadcastInDim S50000 ![] bcast_S_S50000 (constantI S_ 32 8#32))) (shapeCast S50000 (extractStridedSlice S50000x1 ![0, 0] (minsi (broadcastInDim S50000x2 ![] bcast_S_S50000x2 ((constantI S_ 32 7#32))) (maxsi (broadcastInDim S50000x2 ![] bcast_S_S50000x2 ((constantI S_ 32 0#32))) (fptosi 32 (mulf (Host.divf (subf (x1) (broadcastInDim S50000x2 ![0, 1] bcast_S1x2_S50000x2_0_1 (broadcastInDim S1x2 ![1] bcast_S2_S1x2_1 y0))) (broadcastInDim S50000x2 ![0, 1] bcast_S1x2_S50000x2_0_1 (broadcastInDim S1x2 ![1] bcast_S2_S1x2_1 y1))) (broadcastInDim S50000x2 ![] bcast_S_S50000x2 (constant (F := Ideal) S_ .f32 0x41000000#32)))))) slices_S50000x2_S50000x1_0_0) shapeCasts_S50000x1_S50000)) (ix1 n)
      = Spec.region (Spec.spanned (x1 (ix2 n 0)) (y0 (ix1 0)) (y1 (ix1 0))) (Spec.spanned (x1 (ix2 n 1)) (y0 (ix1 1)) (y1 (ix1 1))) := by
  unfold Spec.region Spec.cell Spec.spanned
  pointwise

/-- The region id of a patch. -/
theorem v20_apply (n : Fin 50000) :
    val_main_v20 (F := Ideal) x1 (ix1 n)
      = Spec.region (Spec.spanned (x1 (ix2 n 0)) (val_main_v0 (F := Ideal) x1 (ix1 0)) (val_main_v3 (F := Ideal) x1 (ix1 0))) (Spec.spanned (x1 (ix2 n 1)) (val_main_v0 (F := Ideal) x1 (ix1 1)) (val_main_v3 (F := Ideal) x1 (ix1 1))) := by
  exact v20_of _ _ _ n

end Cert.ReferenceIdeal.Region

end
-- ==== Proof.UnitSquare.lean ====
/-
  The precondition read: every coordinate lies between 0 and 1, so the reference's span is one and its division by the
  span changes nothing.
-/
module
public import proofs.«01_k».proof.Proof.Gen.Pre_unit_square
public import proofs.«01_k».proof.Proof.SpecRegion
public import Idealize.ShloMosaic.Lib.ReduceAll
@[expose] public section
set_option maxRecDepth 16384
noncomputable section
namespace Cert.UnitSquare
open Idealize.ShloMosaic Cert.Pre_unit_square Cert.Pre_unit_square.Gen

/-- The two tests on a coordinate, anded, say that it lies in the unit interval. -/
theorem tests_of (x : FVec Ideal S50000x2 .f32) (n : Fin 50000) (a : Fin 2)
    (h : (andi (cmpf .oge x (broadcastInDim S50000x2 ![] bcast_S_S50000x2 (constant (F := Ideal) S_ .f32 0x00000000#32)))
      (cmpf .olt x (broadcastInDim S50000x2 ![] bcast_S_S50000x2 (constant (F := Ideal) S_ .f32 0x3F800000#32)))) (ix2 n a) = 1#1) :
    (0 : EReal) ≤ x (ix2 n a) ∧ x (ix2 n a) < (1 : EReal) := by
  have e : (andi (cmpf .oge x (broadcastInDim S50000x2 ![] bcast_S_S50000x2 (constant (F := Ideal) S_ .f32 0x00000000#32)))
      (cmpf .olt x (broadcastInDim S50000x2 ![] bcast_S_S50000x2 (constant (F := Ideal) S_ .f32 0x3F800000#32)))) (ix2 n a)
      = IntOp.andi (Ideal.cmp .oge (x (ix2 n a)) 0) (Ideal.cmp .olt (x (ix2 n a)) 1) := by
    pointwise
  rw [e] at h
  have h2 : ∀ p q : Bool, IntOp.andi (BitVec.ofBool p) (BitVec.ofBool q) = 1#1 → p = true ∧ q = true := by decide
  have h3 := h2 _ _ h
  simpa using h3

/-- Under the precondition every coordinate lies in the unit interval. -/
theorem coord_mem (x0 : FVec Ideal S50000x512 .f32) (x : FVec Ideal S50000x2 .f32) (x2 : FVec Ideal S128x512 .f32) (x3 : FVec Ideal S128 .f32)
    (x4 : FVec Ideal S128x512 .f32) (x5 : FVec Ideal S128 .f32) (x6 : FVec Ideal S1x128 .f32) (x7 : FVec Ideal S256x512 .f32)
    (x8 : FVec Ideal S256 .f32) (x9 : FVec Ideal S1x256 .f32) (x10 : FVec Ideal S1 .f32)
    (h : fn (F := Ideal) x0 x x2 x3 x4 x5 x6 x7 x8 x9 x10 = fun _ => 1#1) (n : Fin 50000) (a : Fin 2) :
    (0 : EReal) ≤ x (ix2 n a) ∧ x (ix2 n a) < (1 : EReal) := by
  have h1 := congrFun h (Shape.Idx.first h_S_)
  unfold fn at h1
  haveI : Subsingleton S_.Idx := ⟨fun i j => funext fun b => b.elim0⟩
  exact tests_of x n a (Host.reduce_andi_all _ _ _ _ _ h1 (ix2 n a))

/-- Over coordinates in the unit interval the span, at least one, is one. -/
theorem span_one (f : Fin 50000 → EReal) (hf : ∀ n, 0 ≤ f n ∧ f n < 1) :
    max 1 (Spec.greatest f - Spec.least f) = 1 := by
  refine max_eq_left ?_
  have hg : Spec.greatest f ≤ 1 := Finset.fold_max_le (c := (1 : EReal)) |>.mpr ⟨bot_le, fun n _ => (hf n).2.le⟩
  have hl : 0 ≤ Spec.least f := Finset.le_fold_min (c := (0 : EReal)) |>.mpr ⟨le_top, fun n _ => (hf n).1⟩
  exact (EReal.sub_le_sub hg hl).trans (by simp)

/-- A quotient by one. -/
theorem div_one (x : EReal) : Ideal.div x 1 = x := by
  simp [Ideal.div]

/-- A coordinate over a span of one is the coordinate scaled. -/
theorem spanned_one (x lo : EReal) : Spec.spanned x lo 1 = Spec.scaled x lo := by
  unfold Spec.spanned Spec.scaled
  rw [div_one]

end Cert.UnitSquare

end
-- ==== Proof.RefResults.lean ====
/-
  The reference's four results, read at an index: the specification's functions of the region ids and the arguments.
-/
module
public import proofs.«01_k».proof.Proof.RefHead
public import proofs.«01_k».proof.Proof.RefScatter
public import proofs.«01_k».proof.Proof.RefRegion
public import proofs.«01_k».proof.Proof.UnitSquare
public import proofs.«01_k».proof.Proof.SpecHead
@[expose] public section
set_option maxRecDepth 16384
noncomputable section
namespace Cert.ReferenceIdeal.Results
open Idealize.ShloMosaic Cert.ReferenceIdeal Cert.ReferenceIdeal.Gen Cert.ReferenceIdeal.Read

variable (x0 : FVec Ideal S50000x512 .f32) (x1 : FVec Ideal S50000x2 .f32) (x2 : FVec Ideal S128x512 .f32)
  (x3 : FVec Ideal S128 .f32) (x4 : FVec Ideal S128x512 .f32) (x5 : FVec Ideal S128 .f32) (x6 : FVec Ideal S1x128 .f32)
  (x7 : FVec Ideal S256x512 .f32) (x8 : FVec Ideal S256 .f32) (x9 : FVec Ideal S1x256 .f32) (x10 : FVec Ideal S1 .f32)

/-- The features. -/
def feat (n : Fin 50000) (d : Fin 512) : EReal := x0 (ix2 n d)

/-- The region id of a patch, as the reference computes it. -/
def rid (n : Fin 50000) : BitVec 32 := val_main_v20 (F := Ideal) x1 (ix1 n)

/-- The least coordinate along an axis. -/
def low (a : Fin 2) : EReal := Spec.least fun n => x1 (ix2 n a)

/-- Over coordinates in the unit square the region id is that of the coordinates scaled. -/
theorem rid_eq (h : ∀ (n : Fin 50000) (a : Fin 2), (0 : EReal) ≤ x1 (ix2 n a) ∧ x1 (ix2 n a) < (1 : EReal)) (n : Fin 50000) :
    rid x1 n = Spec.region (Spec.scaled (x1 (ix2 n 0)) (low x1 0)) (Spec.scaled (x1 (ix2 n 1)) (low x1 1)) := by
  unfold rid low
  have h3 : ∀ a : Fin 2, val_main_v3 (F := Ideal) x1 (ix1 a) = (1 : EReal) := fun a => by
    rw [Region.v3_apply, Region.v0_apply]
    exact UnitSquare.span_one _ fun n => h n a
  rw [Region.v20_apply, h3 0, h3 1, Region.v0_apply, Region.v0_apply, UnitSquare.spanned_one, UnitSquare.spanned_one]

/-- The counts. -/
theorem count_eq : (fun r => val_main_v27 (F := Ideal) x1 (ix1 r)) = Spec.count (rid x1) :=
  funext fun r => Scatter.v27_apply x1 r

/-- The pooled features. -/
theorem pool_eq : (fun r d => val_main_v33 (F := Ideal) x0 x1 (ix2 r d)) = Spec.pool (rid x1) (feat x0) := by
  funext r d
  rw [Head.v33_apply, count_eq]
  unfold Spec.pool
  rw [show (fun r d => val_main_v23 (F := Ideal) x0 x1 (ix2 r d)) = Spec.total (rid x1) (feat x0) from
    funext fun r => funext fun d => Scatter.v23_apply x0 x1 r d]

/-- One gate layer. -/
theorem layerU_eq : (fun r a => val_main_v38 (F := Ideal) x0 x1 x2 x3 (ix2 r a))
    = Spec.layer (Spec.pool (rid x1) (feat x0)) (fun a d => x2 (ix2 a d)) (fun a => x3 (ix1 a)) := by
  funext q a
  rw [Head.v38_apply, pool_eq]

/-- The other gate layer. -/
theorem layerV_eq : (fun r a => val_main_v44 (F := Ideal) x0 x1 x4 x5 (ix2 r a))
    = Spec.layer (Spec.pool (rid x1) (feat x0)) (fun a d => x4 (ix2 a d)) (fun a => x5 (ix1 a)) := by
  funext q a
  rw [Head.v44_apply, pool_eq]

/-- The scores. -/
theorem score_eq : (fun r => val_main_v53 (F := Ideal) x0 x1 x2 x3 x4 x5 x6 (ix2 r 0))
    = Spec.score (Spec.layer (Spec.pool (rid x1) (feat x0)) (fun a d => x2 (ix2 a d)) (fun a => x3 (ix1 a)))
        (Spec.layer (Spec.pool (rid x1) (feat x0)) (fun a d => x4 (ix2 a d)) (fun a => x5 (ix1 a))) (fun a => x6 (ix2 0 a)) := by
  funext q
  rw [Head.v53_apply, layerU_eq, layerV_eq]

/-- The masked scores. -/
theorem masked_eq : (fun r => val_main_v55 (F := Ideal) x0 x1 x2 x3 x4 x5 x6 (ix2 r 0))
    = Spec.masked (Spec.count (rid x1))
        (Spec.score (Spec.layer (Spec.pool (rid x1) (feat x0)) (fun a d => x2 (ix2 a d)) (fun a => x3 (ix1 a)))
          (Spec.layer (Spec.pool (rid x1) (feat x0)) (fun a d => x4 (ix2 a d)) (fun a => x5 (ix1 a))) (fun a => x6 (ix2 0 a))) := by
  funext q
  rw [Head.v55_apply, count_eq, score_eq]

/-- The weights. -/
theorem weights_eq : (fun r => val_main_v62 (F := Ideal) x0 x1 x2 x3 x4 x5 x6 (ix2 r 0)) = Spec.weights (rid x1) (feat x0) (fun a d => x2 (ix2 a d)) (fun a => x3 (ix1 a)) (fun a d => x4 (ix2 a d)) (fun a => x5 (ix1 a)) (fun a => x6 (ix2 0 a)) := by
  funext r
  rw [Head.v62_apply, masked_eq]
  rfl

/-- The attention. -/
theorem attention_eq : (fun r => val_main_v66 (F := Ideal) x0 x1 x2 x3 x4 x5 x6 (ix2 r 0)) = Spec.attention (rid x1) (feat x0) (fun a d => x2 (ix2 a d)) (fun a => x3 (ix1 a)) (fun a d => x4 (ix2 a d)) (fun a => x5 (ix1 a)) (fun a => x6 (ix2 0 a)) := by
  funext r
  rw [Head.v66_apply, weights_eq]
  rfl

/-- The slide embedding. -/
theorem embedding_eq : (fun d => val_main_v69 (F := Ideal) x0 x1 x2 x3 x4 x5 x6 (ix1 d)) = Spec.embedding (rid x1) (feat x0) (fun a d => x2 (ix2 a d)) (fun a => x3 (ix1 a)) (fun a d => x4 (ix2 a d)) (fun a => x5 (ix1 a)) (fun a => x6 (ix2 0 a)) := by
  funext d
  rw [Head.v69_apply, attention_eq, pool_eq]
  rfl

/-- The logit. -/
theorem logit_eq : val_main_v80 (F := Ideal) x0 x1 x2 x3 x4 x5 x6 x7 x8 x9 x10 (ix2 0 0)
    = Spec.logit (Spec.embedding (rid x1) (feat x0) (fun a d => x2 (ix2 a d)) (fun a => x3 (ix1 a)) (fun a d => x4 (ix2 a d)) (fun a => x5 (ix1 a)) (fun a => x6 (ix2 0 a))) (fun j d => x7 (ix2 j d)) (fun j => x8 (ix1 j)) (fun j => x9 (ix2 0 j)) (x10 (ix1 0)) := by
  rw [Head.v80_apply, embedding_eq]

/-- The slide embedding as a row. -/
theorem row_eq (d : Fin 512) : val_main_v81 (F := Ideal) x0 x1 x2 x3 x4 x5 x6 (ix2 0 d) = Spec.embedding (rid x1) (feat x0) (fun a d => x2 (ix2 a d)) (fun a => x3 (ix1 a)) (fun a d => x4 (ix2 a d)) (fun a => x5 (ix1 a)) (fun a => x6 (ix2 0 a)) d := by
  rw [Head.v81_apply]
  exact congrFun (embedding_eq x0 x1 x2 x3 x4 x5 x6) d

/-- The number of regions. -/
theorem regions_eq : val_main_v82 (F := Ideal) x1 (ix2 0 0) = Spec.regions (Spec.count (rid x1)) := by
  rw [Head.v82_apply, count_eq]

end Cert.ReferenceIdeal.Results

end
-- ==== Proof.Equation.lean ====
/-
  The equation: over coordinates in the unit square the kernel's four arrays are the reference's four terms at the same
  arguments.
-/
module
public import proofs.«01_k».proof.Proof.Results
public import proofs.«01_k».proof.Proof.RefResults
@[expose] public section
set_option maxRecDepth 16384
noncomputable section
namespace Cert.Equation
open Idealize.ShloMosaic Idealize.ShloMosaic.TcCoe Idealize.SL Cert.KernelIdeal Cert.KernelIdeal.Gen Cert.KernelIdeal.Value
  Cert.ReferenceIdeal.Read

/-- The one index of a one by one array. -/
theorem only (i : S1x1.Idx) : i = ix2 0 0 := by
  rw [eq_ix2 i]
  congr 1 <;> exact Subsingleton.elim (α := Fin 1) _ _

/-- An index of a row. -/
theorem in_row (i : S1x512.Idx) : ∃ d : Fin 512, i = ix2 0 d :=
  ⟨i 1, (eq_ix2 i).trans (congrArg (ix2 · (i 1)) (Subsingleton.elim (α := Fin 1) _ _))⟩

/-- An index of a column. -/
theorem in_col (i : S64x1.Idx) : ∃ r : Fin 64, i = ix2 r 0 :=
  ⟨i 0, (eq_ix2 i).trans (congrArg (ix2 (i 0) ·) (Subsingleton.elim (α := Fin 1) _ _))⟩

variable (m : (ℓ : Loc nD τ sig) → Buf (Elt Ideal) ℓ) (c : Dev nD)

/-- Every coordinate lies in the unit interval. -/
def Square : Prop := ∀ (n : Fin 50000) (a : Fin 2),
  0 ≤ Fold.coord m c n a ∧ Fold.coord m c n a < 1

/-- The two programs give a patch the same region id. -/
theorem rid_eq (h : Square m c) : Cert.ReferenceIdeal.Results.rid (m ((c : Thread nD τ).loc main_arg1)) = Fold.rid m c :=
  funext fun n => Cert.ReferenceIdeal.Results.rid_eq (m ((c : Thread nD τ).loc main_arg1)) h n

/-- The logits agree. -/
theorem logit (h : Square m c) : G12 m c = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  rw [only i]
  refine (Results.logit_apply m c).trans ?_
  rw [← rid_eq m c h]
  exact (Cert.ReferenceIdeal.Results.logit_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

/-- The embeddings agree. -/
theorem embedding (h : Square m c) : G13 m c = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨d, rfl⟩ := in_row i
  refine (Results.emb_apply m c d).trans ?_
  rw [← rid_eq m c h]
  exact (Cert.ReferenceIdeal.Results.row_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) d).symm

/-- The attentions agree. -/
theorem attention (h : Square m c) : G14 m c = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, rfl⟩ := in_col i
  refine (Results.attn_apply m c r).trans ?_
  rw [← rid_eq m c h]
  exact (congrFun (Cert.ReferenceIdeal.Results.attention_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) r).symm

/-- The numbers of regions agree. -/
theorem regions (h : Square m c) : G15 m c = val_main_v82 (F := Ideal) (m ((c : Thread nD τ).loc main_arg1)) := by
  funext i
  rw [only i]
  refine (Results.regions_apply m c).trans ?_
  rw [← rid_eq m c h]
  exact (Cert.ReferenceIdeal.Results.regions_eq (m ((c : Thread nD τ).loc main_arg1))).symm

end Cert.Equation

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unit_square
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel runs, leaves its arguments, and every counter ends at zero. -/
theorem frame_kernel : Cert.quiescent_Kernel := fun m ρ _ => Cert.Kernel.Gen.frame m ρ

/-- The idealized kernel runs, leaves its arguments, and every counter ends at zero. -/
theorem frame_ideal : Cert.quiescent_KernelIdeal := fun m ρ _ => Cert.KernelIdeal.Gen.frame m ρ

/-- The same over coordinates in the unit square. -/
theorem frame_ideal_square : Cert.quiescent_KernelIdeal_pre_unit_square := fun m ρ _ => Cert.KernelIdeal.Gen.frame m ρ

/-- The reference runs, leaves its arguments, and, declaring no semaphore, ends with every counter at zero. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The same over coordinates in the unit square. -/
theorem frame_reference_square : Cert.quiescent_ReferenceIdeal_pre_unit_square := fun m ρ _ => frame_reference m ρ trivial

/-- Over coordinates in the unit square the idealized kernel and the reference leave the same four results. -/
theorem results_agree : Cert.algebraic_KernelIdeal_ReferenceIdeal_pre_unit_square := by
  intro m g m' g' hpre hargs
  have hsq : ∀ c, Cert.Equation.Square m c := fun c n a => Cert.UnitSquare.coord_mem _ _ _ _ _ _ _ _ _ _ _ (hpre c) n a
  refine ⟨fun c => Cert.KernelIdeal.Value.G12 m c, fun c => Cert.KernelIdeal.Value.G13 m c,
    fun c => Cert.KernelIdeal.Value.G14 m c, fun c => Cert.KernelIdeal.Value.G15 m c,
    Cert.KernelIdeal.Value.run (F := Ideal) m g, ?_⟩
  refine (θ_run Cert.ReferenceIdeal.defs _ _).mono (fun r h c => ?_) (Cert.ReferenceIdeal.Value.run (F := Ideal) m' g')
  obtain ⟨e0, e1, e2, e3, e4, e5, e6, e7, e8, e9, e10⟩ := hargs c
  obtain ⟨h0, h1, h2, h3, hrest⟩ := h c
  refine ⟨?_, ?_, ?_, ?_, hrest⟩
  · refine (h0.trans (Cert.ReferenceIdeal.Read.val_main_v80_eq m' c)).trans ?_
    rw [e0, e1, e2, e3, e4, e5, e6, e7, e8, e9, e10]
    exact (Cert.Equation.logit m c (hsq c)).symm
  · refine (h1.trans (Cert.ReferenceIdeal.Read.val_main_v81_eq m' c)).trans ?_
    rw [e0, e1, e2, e3, e4, e5, e6]
    exact (Cert.Equation.embedding m c (hsq c)).symm
  · refine (h2.trans (Cert.ReferenceIdeal.Read.val_main_v66_eq m' c)).trans ?_
    rw [e0, e1, e2, e3, e4, e5, e6]
    exact (Cert.Equation.attention m c (hsq c)).symm
  · refine (h3.trans (Cert.ReferenceIdeal.Read.val_main_v82_eq _)).trans ?_
    rw [e1]
    exact (Cert.Equation.regions m c (hsq c)).symm

/-- Everything the certificate claims. -/
theorem claim : Cert.Claim := ⟨Cert.Kernel.Gen.facts, Cert.KernelIdeal.Gen.facts, Cert.ReferenceIdeal.Gen.facts, Cert.Pre_unit_square.Gen.facts,
  frame_kernel, frame_ideal, frame_ideal_square, frame_reference, frame_reference_square, trivial, results_agree⟩

end Cert.Proof

end
